-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_rows_no_tiny_groups [hPre_finite_rows_no_tiny_groups : Cert.Pre_finite_rows_no_tiny_groups.Facts] (m : (ℓ : Loc Cert.KernelIdeal.nD Cert.KernelIdeal.τ Cert.KernelIdeal.sig) → Buf (Elt Ideal) ℓ) : Prop :=
  ∀ c : Dev Cert.KernelIdeal.nD,
    (Cert.Pre_finite_rows_no_tiny_groups.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_rows_no_tiny_groups.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_rows_no_tiny_groups [hPre_finite_rows_no_tiny_groups : Cert.Pre_finite_rows_no_tiny_groups.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_rows_no_tiny_groups.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_rows_no_tiny_groups.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_rows_no_tiny_groups [hKernelIdeal : Cert.KernelIdeal.Facts] [hPre_finite_rows_no_tiny_groups : Cert.Pre_finite_rows_no_tiny_groups.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_rows_no_tiny_groups m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_rows_no_tiny_groups [hReferenceIdeal : Cert.ReferenceIdeal.Facts] [hPre_finite_rows_no_tiny_groups : Cert.Pre_finite_rows_no_tiny_groups.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_rows_no_tiny_groups m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_rows_no_tiny_groups [hKernelIdeal : Cert.KernelIdeal.Facts] [hReferenceIdeal : Cert.ReferenceIdeal.Facts] [hPre_finite_rows_no_tiny_groups : Cert.Pre_finite_rows_no_tiny_groups.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_rows_no_tiny_groups m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_rows_no_tiny_groups : Cert.Pre_finite_rows_no_tiny_groups.Facts),
    quiescent_Kernel (hKernel := hKernel)
    ∧ quiescent_KernelIdeal (hKernelIdeal := hKernelIdeal)
    ∧ quiescent_KernelIdeal_pre_finite_rows_no_tiny_groups (hKernelIdeal := hKernelIdeal) (hPre_finite_rows_no_tiny_groups := hPre_finite_rows_no_tiny_groups)
    ∧ quiescent_ReferenceIdeal (hReferenceIdeal := hReferenceIdeal)
    ∧ quiescent_ReferenceIdeal_pre_finite_rows_no_tiny_groups (hReferenceIdeal := hReferenceIdeal) (hPre_finite_rows_no_tiny_groups := hPre_finite_rows_no_tiny_groups)
    ∧ preserves_Kernel_KernelIdeal
    ∧ algebraic_KernelIdeal_ReferenceIdeal_pre_finite_rows_no_tiny_groups (hKernelIdeal := hKernelIdeal) (hReferenceIdeal := hReferenceIdeal) (hPre_finite_rows_no_tiny_groups := hPre_finite_rows_no_tiny_groups)
-- ==== Pre_finite_rows_no_tiny_groups.lean ====
abbrev S65536x256 : Shape := ⟨2, ![65536, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩

class Facts : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S65536x256 : S_.BroadcastsInDim S65536x256 (![] : Fin 0 → Fin S65536x256.rank)
  bcast_S_S8192x1 : S_.BroadcastsInDim S8192x1 (![] : Fin 0 → Fin S8192x1.rank)

variable [Facts]

def fn_norm {F : FTy → Type} [FloatOps F] (arg0 : FVec F S8192x256 .f32) : FVec F S8192x1 .f32 :=
  let v0 : FVec F S8192x256 .f32 := mulf arg0 arg0
  let cst : FVec F S_ .f32 := constant S_ .f32 0x00000000#32
  let v1 : FVec F S8192 .f32 := (fun x v => Host.reduceAdd x v reducesTo_S8192x256_S8192_d1 h_S_) v0 cst
  let v2 : FVec F S8192x1 .f32 := broadcastInDim S8192x1 ![0] bcast_S8192_S8192x1_0 v1
  let v3 : FVec F S8192x1 .f32 := Host.sqrt v2
  v3

def fn {F : FTy → Type} [FloatOps F] (main_arg0 : FVec F S65536x256 .f32) (main_arg1 : FVec F S8192x256 .f32) : IVec S65536x256 1 × IVec S8192x1 1 :=
  let main_v0 : FVec F S8192x1 .f32 := fn_norm (F := F) main_arg1
  let main_v1 : FVec F S65536x256 .f32 := Host.absf main_arg0
  let main_cst : FVec F S_ .f32 := constant S_ .f32 0x7F800000#32
  let main_v2 : FVec F S65536x256 .f32 := broadcastInDim S65536x256 ![] bcast_S_S65536x256 main_cst
  let main_v3 : IVec S65536x256 1 := cmpf .olt main_v1 main_v2
  let main_cst_0 : FVec F S_ .f32 := constant S_ .f32 0x2B8CBCCC#32
  let main_v4 : FVec F S8192x1 .f32 := broadcastInDim S8192x1 ![] bcast_S_S8192x1 main_cst_0
  let main_v5 : IVec S8192x1 1 := cmpf .oge main_v0 main_v4
  let main_cst_1 : FVec F S_ .f32 := constant S_ .f32 0x00000000#32
  let main_v6 : FVec F S8192x1 .f32 := broadcastInDim S8192x1 ![] bcast_S_S8192x1 main_cst_1
  let main_v7 : IVec S8192x1 1 := cmpf .oeq main_v0 main_v6
  let main_v8 : IVec S8192x1 1 := ori main_v5 main_v7
  (main_v3, main_v8)
-- ==== Kernel.lean ====
abbrev S65536x256 : Shape := ⟨2, ![65536, 256]⟩
abbrev S8192x256 : Shape := ⟨2, ![8192, 256]⟩
abbrev S65536x1 : Shape := ⟨2, ![65536, 1]⟩
abbrev S512x256 : Shape := ⟨2, ![512, 256]⟩
abbrev S512x1 : Shape := ⟨2, ![512, 1]⟩
abbrev S1024x256 : Shape := ⟨2, ![1024, 256]⟩
abbrev S1024 : Shape := ⟨1, ![1024]⟩
abbrev S1024x1 : Shape := ⟨2, ![1024, 1]⟩
abbrev S512x1024 : Shape := ⟨2, ![512, 1024]⟩
abbrev S512 : Shape := ⟨1, ![512]⟩
abbrev S2048x1 : Shape := ⟨2, ![2048, 1]⟩
abbrev S2048x256 : Shape := ⟨2, ![2048, 256]⟩
abbrev S2048x512 : Shape := ⟨2, ![2048, 512]⟩

abbrev nBuf : Space → Nat
  | .hbm => 4
  | .vmem => 15
  | .smem => 0
  | _ => 0

abbrev bufTy : (tb : Table) → Fin (tcTables nBuf tb) → BufTy
  | .hbm, ⟨0, _⟩ => ⟨S65536x256, .f32⟩
  | .hbm, ⟨1, _⟩ => ⟨S8192x256, .f32⟩
  | .hbm, ⟨2, _⟩ => ⟨S65536x1, .i32⟩
  | .hbm, ⟨3, _⟩ => ⟨S8192x256, .f32⟩
  | .local _ .vmem, ⟨0, _⟩ => ⟨S512x256, .f32⟩
  | .local _ .vmem, ⟨1, _⟩ => ⟨S512x256, .f32⟩
  | .local _ .vmem, ⟨2, _⟩ => ⟨S8192x256, .f32⟩
  | .local _ .vmem, ⟨3, _⟩ => ⟨S512x1, .i32⟩
  | .local _ .vmem, ⟨4, _⟩ => ⟨S512x1, .i32⟩
  | .local _ .vmem, ⟨5, _⟩ => ⟨S2048x1, .i32⟩
  | .local _ .vmem, ⟨6, _⟩ => ⟨S2048x1, .i32⟩
  | .local _ .vmem, ⟨7, _⟩ => ⟨S2048x256, .f32⟩
  | .local _ .vmem, ⟨8, _⟩ => ⟨S2048x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x1, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32_1 : BitVec 32 := 0#32
  let c8_i32 : BitVec 32 := 8#32
  let v4 : BitVec 32 := Scalar.addi c0_i32_1 c8_i32
  let c1_i32 : BitVec 32 := 1#32
  ⟨c0_i32_1, v4, c1_i32⟩
def k0_off1 (k0_t1 : Fin k0_t1_loop.trips) : Fin 2 → Nat :=
  let c0_i32_1 : BitVec 32 := 0#32
  let c1_i32 : BitVec 32 := 1#32
  let arg4 : BitVec 32 := Scf.iv c0_i32_1 c1_i32 k0_t1
  let c1024_i32 : BitVec 32 := 1024#32
  let v7 : BitVec 32 := Scalar.muli arg4 c1024_i32
  let v8 : Index := Scalar.indexCast v7
  let c0_5 : Index := 0#32
  ![v8.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 32], ![false, false]⟩

def k1_cond2 (i : grid1.Coords) : BitVec 1 :=
  let arg1 : BitVec 32 := BitVec.ofNat 32 (i 1).val
  let c31_i32 : BitVec 32 := 31#32
  let v30 : BitVec 1 := Scalar.cmpi .eq arg1 c31_i32
  let v31 : BitVec 32 := Scalar.extui v30
  let c0_i32_16 : BitVec 32 := 0#32
  let v32 : BitVec 1 := Scalar.cmpi .ne v31 c0_i32_16
  v32

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]
-- ==== ReferenceIdeal.lean ====
abbrev S65536x256 : Shape := ⟨2, ![65536, 256]⟩
abbrev S8192x256 : Shape := ⟨2, ![8192, 256]⟩
abbrev S_ : Shape := ⟨0, ![]⟩
abbrev S65536 : Shape := ⟨1, ![65536]⟩
abbrev S65536x1 : Shape := ⟨2, ![65536, 1]⟩
abbrev S8192 : Shape := ⟨1, ![8192]⟩
abbrev S8192x1 : Shape := ⟨2, ![8192, 1]⟩
abbrev S256x8192 : Shape := ⟨2, ![256, 8192]⟩
abbrev S65536x8192 : Shape := ⟨2, ![65536, 8192]⟩

abbrev nBuf : Space → Nat
  | .hbm => 74
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S8192x256, .f32⟩
  | .hbm, ⟨2, _⟩ => ⟨S65536x256, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S65536x256, .f32⟩
  | .hbm, ⟨11, _⟩ => ⟨S65536x256, .f32⟩
  | .hbm, ⟨12, _⟩ => ⟨S8192x256, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x256, .f32⟩
  | .hbm, ⟨21, _⟩ => ⟨S8192x256, .f32⟩
  | .hbm, ⟨22, _⟩ => ⟨S256x8192, .f32⟩
  | .hbm, ⟨23, _⟩ => ⟨S65536x8192, .f32⟩
  | .hbm, ⟨24, _⟩ => ⟨S65536x8192, .i32⟩
  | .hbm, ⟨25, _⟩ => ⟨S_, .f32⟩
  | .hbm, ⟨26, _⟩ => ⟨S_, .i32⟩
  | .hbm, ⟨27, _⟩ => ⟨S65536, .f32⟩
  | .hbm, ⟨28, _⟩ => ⟨S65536, .i32⟩
  | .hbm, ⟨29, _⟩ => ⟨S_, .i32⟩
  | .hbm, ⟨30, _⟩ => ⟨S8192, .i32⟩
  | .hbm, ⟨31, _⟩ => ⟨S_, .i32⟩
  | .hbm, ⟨32, _⟩ => ⟨S_, .i32⟩
  | .hbm, ⟨33, _⟩ => ⟨S65536, .i32⟩
  | .hbm, ⟨34, _⟩ => ⟨S65536, .i32⟩
  | .hbm, ⟨35, _⟩ => ⟨S_, .i32⟩
  | .hbm, ⟨36, _⟩ => ⟨S65536, .i32⟩
  | .hbm, ⟨37, _⟩ => ⟨S65536, .i1⟩
  | .hbm, ⟨38, _⟩ => ⟨S_, .i32⟩
  | .hbm, ⟨39, _⟩ => ⟨S65536, .i32⟩
  | .hbm, ⟨40, _⟩ => ⟨S65536, .i32⟩
  | .hbm, ⟨41, _⟩ => ⟨S65536, .i32⟩
  | .hbm, ⟨42, _⟩ => ⟨S65536x1, .i32⟩
  | .hbm, ⟨43, _⟩ => ⟨S_, .i32⟩
  | .hbm, ⟨44, _⟩ => ⟨S65536, .i32⟩
  | .hbm, ⟨45, _⟩ => ⟨S8192, .i32⟩
  | .hbm, ⟨46, _⟩ => ⟨S_, .f32⟩
  | .hbm, ⟨47, _⟩ => ⟨S8192x256, .f32⟩
  | .hbm, ⟨48, _⟩ => ⟨S8192x256, .f32⟩
  | .hbm, ⟨49, _⟩ => ⟨S_, .f32⟩
  | .hbm, ⟨50, _⟩ => ⟨S65536x256, .f32⟩
  | .hbm, ⟨51, _⟩ => ⟨S65536x256, .f32⟩
  | .hbm, ⟨52, _⟩ => ⟨S_, .i32⟩
  | .hbm, ⟨53, _⟩ => ⟨S65536, .i32⟩
  | .hbm, ⟨54, _⟩ => ⟨S65536, .i1⟩
  | .hbm, ⟨55, _⟩ => ⟨S_, .i32⟩
  | .hbm, ⟨56, _⟩ => ⟨S65536, .i32⟩
  | .hbm, ⟨57, _⟩ => ⟨S65536, .i32⟩
  | .hbm, ⟨58, _⟩ => ⟨S65536, .i32⟩
  | .hbm, ⟨59, _⟩ => ⟨S65536x1, .i32⟩
  | .hbm, ⟨60, _⟩ => ⟨S65536, .i32⟩
  | .hbm, ⟨61, _⟩ => ⟨S65536x1, .i32⟩
  | .hbm, ⟨62, _⟩ => ⟨S65536x1, .f32⟩
  | .hbm, ⟨63, _⟩ => ⟨S65536x256, .f32⟩
  | .hbm, ⟨64, _⟩ => ⟨S65536x256, .f32⟩
  | .hbm, ⟨65, _⟩ => ⟨S_, .i32⟩
  | .hbm, ⟨66, _⟩ => ⟨S65536, .i32⟩
  | .hbm, ⟨67, _⟩ => ⟨S65536, .i1⟩
  | .hbm, ⟨68, _⟩ => ⟨S_, .i32⟩
  | .hbm, ⟨69, _⟩ => ⟨S65536, .i32⟩
  | .hbm, ⟨70, _⟩ => ⟨S65536, .i32⟩
  | .hbm, ⟨71, _⟩ => ⟨S65536, .i32⟩
  | .hbm, ⟨72, _⟩ => ⟨S65536x1, .i32⟩
  | .hbm, ⟨73, _⟩ => ⟨S8192x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call2_v0 : Ref sig .tc := ⟨.hbm, 24, rfl⟩
abbrev main_call2_cst : Ref sig .tc := ⟨.hbm, 25, rfl⟩
abbrev main_call2_c : Ref sig .tc := ⟨.hbm, 26, rfl⟩
abbrev main_call2_v1_0 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_c_1 : Ref sig .tc := ⟨.hbm, 31, rfl⟩
abbrev main_call3_v0 : Ref sig .tc := ⟨.hbm, 32, rfl⟩
abbrev main_call3_v1 : Ref sig .tc := ⟨.hbm, 33, rfl⟩
abbrev main_v14 : Ref sig .tc := ⟨.hbm, 34, rfl⟩
abbrev main_c_2 : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_4 : Ref sig .tc := ⟨.hbm, 43, rfl⟩
abbrev main_v21 : Ref sig .tc := ⟨.hbm, 44, rfl⟩
abbrev main_v22 : Ref sig .tc := ⟨.hbm, 45, rfl⟩
abbrev main_cst_5 : Ref sig .tc := ⟨.hbm, 46, rfl⟩
abbrev main_v23 : Ref sig .tc := ⟨.hbm, 47, rfl⟩
abbrev main_v24 : Ref sig .tc := ⟨.hbm, 48, rfl⟩
abbrev main_cst_6 : Ref sig .tc := ⟨.hbm, 49, rfl⟩
abbrev main_v25 : Ref sig .tc := ⟨.hbm, 50, rfl⟩
abbrev main_v26 : Ref sig .tc := ⟨.hbm, 51, rfl⟩
abbrev main_c_7 : Ref sig .tc := ⟨.hbm, 52, rfl⟩
abbrev main_v27 : Ref sig .tc := ⟨.hbm, 53, rfl⟩
abbrev main_v28 : Ref sig .tc := ⟨.hbm, 54, rfl⟩
abbrev main_c_8 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_9 : Ref sig .tc := ⟨.hbm, 65, rfl⟩
abbrev main_v38 : Ref sig .tc := ⟨.hbm, 66, rfl⟩
abbrev main_v39 : Ref sig .tc := ⟨.hbm, 67, rfl⟩
abbrev main_c_10 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩

abbrev nD : Nat := 1
abbrev τ : Topo := Topo.v7x

variable {F : FTy → Type} [FloatOps F]
-- ==== Proof.IdealAssignBody.lean ====
/- The first kernel's body run by symbolic execution: what it leaves, and the pipeline's obligation. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The offset of a rectangle that starts at the corner. -/
theorem corner : (![0, 0] : Fin 2 → Nat) = fun _ => 0 := funext fun a => by fin_cases a <;> rfl

/-! ## What the first kernel computes on one block of tokens -/

/-- The tile of groups the loop reads at trip `k`. -/
def groupTile (g : Vec F S8192x256 .f32) (k : Fin k0_t1_loop.trips) : Vec F S1024x256 .f32 :=
  View.ld g (Rect.unit (s := S8192x256) (k0_off1 k) S1024x256.size (k0_off1_inb k))

/-- One trip: the best value and the best index after tile `k` of the groups. -/
def assignStep (x : Vec F S512x256 .f32) (g : Vec F S8192x256 .f32) (k : Fin k0_t1_loop.trips)
    (acc : FVec F S512x1 .f32 × IVec S512x1 32) : FVec F S512x1 .f32 × IVec S512x1 32 :=
  (k0_pay6 x acc.1 (groupTile g k), k0_pay7 x k acc.1 acc.2 (groupTile g k))

/-- The best value and index before trip `n`. -/
def assignBest (x : Vec F S512x256 .f32) (g : Vec F S8192x256 .f32) : ℕ → FVec F S512x1 .f32 × IVec S512x1 32
  | 0 => (k0_pay1 (F := F), k0_pay2)
  | n + 1 => if h : n < k0_t1_loop.trips then assignStep x g ⟨n, h⟩ (assignBest x g n) else assignBest x g n

/-- The groups the block's tokens are assigned to. -/
def assigned (x : Vec F S512x256 .f32) (g : Vec F S8192x256 .f32) : IVec S512x1 32 :=
  (assignBest x g k0_t1_loop.trips).2

/-- The loop's recorded state is the recursion above. -/
theorem loop_state (c : Dev nD) (i : grid0.Coords) (arg1 : Memref sig .tc .vmem S512x256 .f32) (harg1 : arg1.IsWhole)
    (arg2 : Memref sig .tc .vmem S8192x256 .f32) (harg2 : arg2.IsWhole) (arg3 : Memref sig .tc .vmem S512x1 .i32) (harg3 : arg3.IsWhole)
    (x : Vec F S512x256 .f32) (g : Vec F S8192x256 .f32) (n : ℕ) (hn : n ≤ k0_t1_loop.trips) :
    st_k0_t1 Variants.none c none i arg1 harg1 arg2 harg2 arg3 harg3 x (harg2.unread g) (k0_pay1 (F := F), k0_pay2) n
      = assignBest x g n := by
  induction n with
  | zero => rfl
  | succ n ih =>
    have h : n < k0_t1_loop.trips := hn
    rw [st_k0_t1_succ Variants.none c none i arg1 harg1 arg2 harg2 arg3 harg3 x (harg2.unread g) _ ⟨n, h⟩, ih h.le]
    rw [show assignBest x g (n + 1) = assignStep x g ⟨n, h⟩ (assignBest x g n) from dif_pos h]
    unfold tripR_k0_t1 trip_k0_t1
    dsimp only
    simp only [View.readAt_eq_ld, harg2.read_unread]
    rfl

/-- The first kernel's body on whole buffers: the two inputs are read and kept, the third buffer ends
    holding the assigned groups. -/
theorem assign_run (c : Dev nD) (i : grid0.Coords) (arg1 : Memref sig .tc .vmem S512x256 .f32) (harg1 : arg1.IsWhole)
    (arg2 : Memref sig .tc .vmem S8192x256 .f32) (harg2 : arg2.IsWhole) (arg3 : Memref sig .tc .vmem S512x1 .i32) (harg3 : arg3.IsWhole)
    (x : Vec F S512x256 .f32) (g : Vec F S8192x256 .f32) (E : Set ℕ) (K : PUnit → sProp 𝕄) :
    iprop(owns (c : Thread nD τ) arg1 fullShare x ∗ owns (c : Thread nD τ) arg2 fullShare g ∗ (∃ d, owns (c : Thread nD τ) arg3 fullShare d)
        ∗ (iprop(owns (c : Thread nD τ) arg1 fullShare x ∗ owns (c : Thread nD τ) arg2 fullShare g
            ∗ owns (c : Thread nD τ) arg3 fullShare (assigned x g)) -∗ K ⟨⟩))
      ⊢ wp frame (wpE (defs₀ (F := F)) Variants.none c none) E (cc0__assign_body i arg1 harg1 arg2 harg2 arg3 harg3) K := by
  simp only [cc0__assign_body_eq_skeleton]; unfold cc0__assign_body_skel
  unfold owns
  iintro ⟨⟨%f0, %hf0, H0⟩, ⟨%f1, %hf1, H1⟩, ⟨%d2, %f2, -, H2⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  rw [View.read_writes_eq_canon _ _ _ (fun y => View.cover_of_tiledL _ S512x1.size (by sl_kernel_rfl) y)]
  rw [View.canon_unit_zero corner]
  simp only [View.readAt_eq_ld, harg1.read_unread, View.ld_unit_zero (S := S512x256) corner]
  rw [loop_state c i arg1 harg1 arg2 harg2 arg3 harg3 x g _ le_rfl]
  rfl

/-! ## The first region's proof data -/

variable (W : (c : Dev nD) → Valuation τ sig (Elt F))

/-- Window `w`'s block at point `t`, read off its array as the first region finds it. -/
def blk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The groups the first kernel writes at point `t`. -/
def out0 (c : Dev nD) (t : Fin cfg0.N) : Vec F S512x1 .i32 := assigned (blk0 W c 0 t) (blk0 W c 1 t)

/-- The first pipeline's proof data: the arrays as found; each input's block kept, the output's block at `out0`. -/
def dat0 (c : Dev nD) : Dat τ (Elt F) Unit ℕ (UR sig nD τ) ℕ cfg0 c where
  A w := W c (Proc.devRef .tc (Pipeline.arrRef spec0 w))
  after w t := match w with
    | ⟨0, _⟩ => blk0 W c 0 t
    | ⟨1, _⟩ => blk0 W c 1 t
    | ⟨2, _⟩ => out0 W c t
  Φ _ := Pipeline.ΦA spec0 c
  q _ := fullShare
  owed _ := 0

theorem dat0_A (c : Dev nD) (w : Fin cfg0.W) : (dat0 W c).A w = W c (Proc.devRef .tc (Pipeline.arrRef spec0 w)) := by
  dsimp only [dat0]
theorem dat0_after_0 (c : Dev nD) (t : Fin cfg0.N) : (dat0 W c).after 0 t = blk0 W c 0 t := by dsimp only [dat0]
theorem dat0_after_1 (c : Dev nD) (t : Fin cfg0.N) : (dat0 W c).after 1 t = blk0 W c 1 t := by dsimp only [dat0]
theorem dat0_after_2 (c : Dev nD) (t : Fin cfg0.N) : (dat0 W c).after 2 t = out0 W c t := by dsimp only [dat0]

/-- Each input's staging buffer holds its block when the body runs. -/
theorem dat0_before_0 (c : Dev nD) (t : Fin cfg0.N) (d) : (dat0 W c).before 0 t d = blk0 W c 0 t :=
  ((dat0 W c).before_in_eq_fetched 0 rfl (fun _ => rfl) (fun _ _ _ => rfl)
      (fun t => by rw [dat0_after_0]; unfold Dat.blockOf blk0; rw [dat0_A]; try rfl) t d).trans
    (by unfold Dat.fetched Dat.blockOf blk0; rw [dat0_A]; try rfl)
theorem dat0_before_1 (c : Dev nD) (t : Fin cfg0.N) (d) : (dat0 W c).before 1 t d = blk0 W c 1 t :=
  ((dat0 W c).before_in_eq_fetched 1 rfl (fun _ => rfl) (fun _ _ _ => rfl)
      (fun t => by rw [dat0_after_1]; unfold Dat.blockOf blk0; rw [dat0_A]; try rfl) t d).trans
    (by unfold Dat.fetched Dat.blockOf blk0; rw [dat0_A]; try rfl)

/-- The first pipeline's buffers at point `t`, as the body is given them. -/
abbrev stg0_0 (t : Fin cfg0.N) : Memref sig .tc .vmem S512x256 .f32 := win0_0.stage (cfg0.slots t 0)
abbrev stg0_1 (t : Fin cfg0.N) : Memref sig .tc .vmem S8192x256 .f32 := win0_1.stage (cfg0.slots t 1)
abbrev stg0_2 (t : Fin cfg0.N) : Memref sig .tc .vmem S512x1 .i32 := win0_2.stage (cfg0.slots t 2)

/-- What the first body is called with, -/
def pre0 (c : Dev nD) (t : Fin cfg0.N) : sProp 𝕄 :=
  iprop((dat0 W c).Φ t.castSucc ∗ (dat0 W c).owesAt () t.castSucc
    ∗ (∃ d, owns (c : Thread nD τ) (stg0_0 t) fullShare ((dat0 W c).before 0 t d))
    ∗ (∃ d, owns (c : Thread nD τ) (stg0_1 t) fullShare ((dat0 W c).before 1 t d))
    ∗ (∃ d, owns (c : Thread nD τ) (stg0_2 t) fullShare ((dat0 W c).before 2 t d)))

/-- and what it returns. -/
def post0 (c : Dev nD) (t : Fin cfg0.N) : sProp 𝕄 :=
  iprop((dat0 W c).Φ t.succ ∗ (dat0 W c).owesAt () t.succ
    ∗ owns (c : Thread nD τ) (stg0_0 t) fullShare ((dat0 W c).after 0 t)
    ∗ owns (c : Thread nD τ) (stg0_1 t) fullShare ((dat0 W c).after 1 t)
    ∗ owns (c : Thread nD τ) (stg0_2 t) fullShare ((dat0 W c).after 2 t))

/-- The first body at any point. -/
theorem body0 (c : Dev nD) (t : Fin cfg0.N) :
    pre0 W c t ⊢ wp frame (wpE (defs₀ (F := F)) Variants.none c none) Set.univ (bodyAt0 t) (fun _ => post0 W c t) := by
  unfold pre0 post0 bodyAt0
  simp only [dat0_before_0, dat0_before_1]
  rw [show (dat0 W c).Φ t.succ = (dat0 W c).Φ t.castSucc from rfl,
    show (dat0 W c).owesAt () t.succ = (dat0 W c).owesAt () t.castSucc from rfl,
    dat0_after_0, dat0_after_1, dat0_after_2]
  unfold out0
  iintro ⟨HΦ, Ho, ⟨%d0, H0⟩, ⟨%d1, H1⟩, ⟨%d2, H2⟩⟩
  iapply (assign_run c (grid0.coords t) _ _ _ _ _ _ (blk0 W c 0 t) (blk0 W c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's obligation for the first body. -/
theorem obligation0 (c : Dev nD) : BodyObligation (dat0 (F := F) W c) (defs₀ (F := F)) Variants.none () Set.univ := fun t => by
  rw [bigSep_W0, bigSep_W0,
    show defs₀ (F := F) .tc cfg0.body (cfg0.bodyArgs t (cfg0.slots t)) = bodyAt0 t by unfold defs₀; rw [Defs.onTc_tc]]
  exact triple_restated (body0 W c t) rfl .rfl fun _ => .rfl

end Cert.KernelIdeal.Body

end
-- ==== Proof.IdealUpdateBody.lean ====
/- The second kernel's body run by symbolic execution, with the two running totals it carries, and the pipeline's obligation. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The offset of a rectangle that starts at the corner. -/
theorem origin : (![0, 0] : Fin 2 → Nat) = fun _ => 0 := funext fun a => by fin_cases a <;> rfl

/-! ## The body's branch conditions and where the output is idle -/

/-- The running totals are reset at the first tile of tokens, -/
abbrev atFirst (i : grid1.Coords) : Prop := (Scalar.cmpi .ne (Scalar.extui (Scalar.cmpi .eq (BitVec.ofNat 32 (i 1).val) 0#32)) 0#32) = 1#1
/-- and the output is written at the last. -/
abbrev atLast (i : grid1.Coords) : Prop := k1_cond2 i = 1#1

theorem atFirst_iff : ∀ t : Fin cfg1.N, atFirst (grid1.coords t) ↔ t.val % 32 = 0 :=
  (fun t => by
    have ht : t.val < 512 := Nat.lt_of_lt_of_eq t.isLt N_1
    have e0 : (grid1.coords t 0).val = t.val / 32 % 16 := Pipeline.Grid.coords_val t 0 (by decide) rfl
    have e1 : (grid1.coords t 1).val = t.val / 1 % 32 := Pipeline.Grid.coords_val t 1 (by decide) rfl
    simp only [atFirst, e0, e1]
    word_cmp
   : ∀ t : Fin grid1.N, atFirst (grid1.coords t) ↔ t.val % 32 = 0)
theorem atLast_iff : ∀ t : Fin cfg1.N, atLast (grid1.coords t) ↔ t.val % 32 = 31 :=
  (fun t => by
    have ht : t.val < 512 := Nat.lt_of_lt_of_eq t.isLt N_1
    have e0 : (grid1.coords t 0).val = t.val / 32 % 16 := Pipeline.Grid.coords_val t 0 (by decide) rfl
    have e1 : (grid1.coords t 1).val = t.val / 1 % 32 := Pipeline.Grid.coords_val t 1 (by decide) rfl
    simp only [atLast, k1_cond2, e0, e1]
    word_cmp
   : ∀ t : Fin grid1.N, atLast (grid1.coords t) ↔ t.val % 32 = 31)

theorem out_idle : ∀ t : Fin cfg1.N, ¬atLast (grid1.coords t) → cfg1.idle 3 (grid1.coords t) = true := by decide +kernel
theorem out_noFlush : ∀ t : Fin cfg1.N, ¬atLast (grid1.coords t) → (cfg1.win 3).flush t = false := by decide +kernel
theorem out_live : ∀ t : Fin cfg1.N, atLast (grid1.coords t) → cfg1.idle 3 (grid1.coords t) = false := by decide +kernel

/-! ## The body on whole buffers, in its three cases -/

set_option maxHeartbeats 1000000 in
/-- At the first tile of tokens the totals start from zero. -/
theorem update_run_first (c : Dev nD) (i : grid1.Coords) (arg2 : Memref sig .tc .vmem S2048x1 .i32) (harg2 : arg2.IsWhole) (arg3 : Memref sig .tc .vmem S2048x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x1 .f32) (harg7 : arg7.IsWhole)
    (hc0 : atFirst i) (hc1 : ¬atLast i)
    (x0 : Vec F S2048x1 .i32) (x1 : Vec F S2048x256 .f32) (x2 : Vec F S512x256 .f32) (x3 : Vec F S512x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k1_pay5 i x0 x1 (k1_pay2 (F := F)))
            ∗ owns (c : Thread nD τ) arg7 fullShare (k1_pay6 i x0 (k1_pay3 (F := F)))) -∗ K ⟨⟩))
      ⊢ wp frame (wpE (defs₀ (F := F)) Variants.none c none) E (cc1__update_body i arg2 harg2 arg3 harg3 arg4 harg4 arg5 harg5 arg6 harg6 arg7 harg7) K := by
  simp only [cc1__update_body_eq_skeleton]; unfold cc1__update_body_skel
  simp only [k1_part1_eq_skeleton]
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
  obtain rfl := harg2.eq_unread hf0; obtain rfl := harg3.eq_unread hf1; obtain rfl := harg4.eq_unread hf2
  obtain rfl := harg5.eq_unread hf3
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS0]
  · iexists _; isplitr
    swap; · iexact HS0
    ipureintro
    rw [View.read_writes_eq_canon _ _ _ (fun y => View.cover_of_tiledL _ S512x256.size (by sl_kernel_rfl) y)]
    sl_unfold_words
    first
      | rw [View.canon_cons_unit_zero (S := S512x256) origin]
      | rw [View.canon_unit_zero (S := S512x256) origin]
    simp only [View.readCov_unit_zero (S := S512x256) _ origin, View.readCov_unit_zero (S := S512x1) _ origin,
      View.readAt_eq_ld, harg2.read_unread, harg3.read_unread, harg4.read_unread, harg6.read_unread, harg7.read_unread,
      View.ld_unit_zero (S := S2048x1) origin, View.ld_unit_zero (S := S2048x256) origin,
      View.ld_unit_zero (S := S512x256) origin, View.ld_unit_zero (S := S512x1) origin]
  iexists _; isplitr
  swap; · iexact HS1
  ipureintro
  rw [View.read_writes_eq_canon _ _ _ (fun y => View.cover_of_tiledL _ S512x1.size (by sl_kernel_rfl) y)]
  sl_unfold_words
  first
    | rw [View.canon_cons_unit_zero (S := S512x1) origin]
    | rw [View.canon_unit_zero (S := S512x1) origin]
  simp only [View.readCov_unit_zero (S := S512x256) _ origin, View.readCov_unit_zero (S := S512x1) _ origin,
    View.readAt_eq_ld, harg2.read_unread, harg3.read_unread, harg4.read_unread, harg6.read_unread, harg7.read_unread,
    View.ld_unit_zero (S := S2048x1) origin, View.ld_unit_zero (S := S2048x256) origin,
    View.ld_unit_zero (S := S512x256) origin, View.ld_unit_zero (S := S512x1) origin]

set_option maxHeartbeats 1000000 in
/-- In between the tile's rows and counts are added to the totals. -/
theorem update_run_mid (c : Dev nD) (i : grid1.Coords) (arg2 : Memref sig .tc .vmem S2048x1 .i32) (harg2 : arg2.IsWhole) (arg3 : Memref sig .tc .vmem S2048x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x1 .f32) (harg7 : arg7.IsWhole)
    (hc0 : ¬atFirst i) (hc1 : ¬atLast i)
    (x0 : Vec F S2048x1 .i32) (x1 : Vec F S2048x256 .f32) (x2 : Vec F S512x256 .f32) (x3 : Vec F S512x256 .f32) (s0 : Vec F S512x256 .f32) (s1 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare s0 ∗ owns (c : Thread nD τ) arg7 fullShare s1
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k1_pay5 i x0 x1 s0)
            ∗ owns (c : Thread nD τ) arg7 fullShare (k1_pay6 i x0 s1)) -∗ K ⟨⟩))
      ⊢ wp frame (wpE (defs₀ (F := F)) Variants.none c none) E (cc1__update_body i arg2 harg2 arg3 harg3 arg4 harg4 arg5 harg5 arg6 harg6 arg7 harg7) K := by
  simp only [cc1__update_body_eq_skeleton]; unfold cc1__update_body_skel
  simp only [k1_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hfs0; obtain rfl := harg7.eq_unread hfs1
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS0]
  · iexists _; isplitr
    swap; · iexact HS0
    ipureintro
    rw [View.read_writes_eq_canon _ _ _ (fun y => View.cover_of_tiledL _ S512x256.size (by sl_kernel_rfl) y)]
    sl_unfold_words
    first
      | rw [View.canon_cons_unit_zero (S := S512x256) origin]
      | rw [View.canon_unit_zero (S := S512x256) origin]
    simp only [View.readCov_unit_zero (S := S512x256) _ origin, View.readCov_unit_zero (S := S512x1) _ origin,
      View.readAt_eq_ld, harg2.read_unread, harg3.read_unread, harg4.read_unread, harg6.read_unread, harg7.read_unread,
      View.ld_unit_zero (S := S2048x1) origin, View.ld_unit_zero (S := S2048x256) origin,
      View.ld_unit_zero (S := S512x256) origin, View.ld_unit_zero (S := S512x1) origin]
  iexists _; isplitr
  swap; · iexact HS1
  ipureintro
  rw [View.read_writes_eq_canon _ _ _ (fun y => View.cover_of_tiledL _ S512x1.size (by sl_kernel_rfl) y)]
  sl_unfold_words
  first
    | rw [View.canon_cons_unit_zero (S := S512x1) origin]
    | rw [View.canon_unit_zero (S := S512x1) origin]
  simp only [View.readCov_unit_zero (S := S512x256) _ origin, View.readCov_unit_zero (S := S512x1) _ origin,
    View.readAt_eq_ld, harg2.read_unread, harg3.read_unread, harg4.read_unread, harg6.read_unread, harg7.read_unread,
    View.ld_unit_zero (S := S2048x1) origin, View.ld_unit_zero (S := S2048x256) origin,
    View.ld_unit_zero (S := S512x256) origin, View.ld_unit_zero (S := S512x1) origin]

set_option maxHeartbeats 1000000 in
/-- At the last tile the output is computed from the totals. -/
theorem update_run_last (c : Dev nD) (i : grid1.Coords) (arg2 : Memref sig .tc .vmem S2048x1 .i32) (harg2 : arg2.IsWhole) (arg3 : Memref sig .tc .vmem S2048x256 .f32) (harg3 : arg3.IsWhole)
    (arg4 : Memref sig .tc .vmem S512x256 .f32) (harg4 : arg4.IsWhole) (arg5 : Memref sig .tc .vmem S512x256 .f32) (harg5 : arg5.IsWhole)
    (arg6 : Memref sig .tc .vmem S512x256 .f32) (harg6 : arg6.IsWhole) (arg7 : Memref sig .tc .vmem S512x1 .f32) (harg7 : arg7.IsWhole)
    (hc0 : ¬atFirst i) (hc1 : atLast i)
    (x0 : Vec F S2048x1 .i32) (x1 : Vec F S2048x256 .f32) (x2 : Vec F S512x256 .f32) (s0 : Vec F S512x256 .f32) (s1 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare s0 ∗ owns (c : Thread nD τ) arg7 fullShare s1
        ∗ (iprop(owns (c : Thread nD τ) arg2 fullShare x0 ∗ owns (c : Thread nD τ) arg3 fullShare x1 ∗ owns (c : Thread nD τ) arg4 fullShare x2
            ∗ owns (c : Thread nD τ) arg5 fullShare (k1_pay1 (k1_pay6 i x0 s1) x2 (k1_pay5 i x0 x1 s0)) ∗ owns (c : Thread nD τ) arg6 fullShare (k1_pay5 i x0 x1 s0)
            ∗ owns (c : Thread nD τ) arg7 fullShare (k1_pay6 i x0 s1)) -∗ K ⟨⟩))
      ⊢ wp frame (wpE (defs₀ (F := F)) Variants.none c none) E (cc1__update_body i arg2 harg2 arg3 harg3 arg4 harg4 arg5 harg5 arg6 harg6 arg7 harg7) K := by
  simp only [cc1__update_body_eq_skeleton]; unfold cc1__update_body_skel
  simp only [k1_part1_eq_skeleton]
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg6.eq_unread hfs0; obtain rfl := harg7.eq_unread hfs1
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_eq_canon _ _ _ (fun y => View.cover_of_tiledL _ S512x256.size (by sl_kernel_rfl) y)]
    sl_unfold_words
    first
      | rw [View.canon_cons_unit_zero (S := S512x256) origin]
      | rw [View.canon_unit_zero (S := S512x256) origin]
    simp only [View.readCov_unit_zero (S := S512x256) _ origin, View.readCov_unit_zero (S := S512x1) _ origin,
      View.readAt_eq_ld, harg2.read_unread, harg3.read_unread, harg4.read_unread, harg6.read_unread, harg7.read_unread,
      View.ld_unit_zero (S := S2048x1) origin, View.ld_unit_zero (S := S2048x256) origin,
      View.ld_unit_zero (S := S512x256) origin, View.ld_unit_zero (S := S512x1) origin]
  isplitl [HS0]
  · iexists _; isplitr
    swap; · iexact HS0
    ipureintro
    rw [View.read_writes_eq_canon _ _ _ (fun y => View.cover_of_tiledL _ S512x256.size (by sl_kernel_rfl) y)]
    sl_unfold_words
    first
      | rw [View.canon_cons_unit_zero (S := S512x256) origin]
      | rw [View.canon_unit_zero (S := S512x256) origin]
    simp only [View.readCov_unit_zero (S := S512x256) _ origin, View.readCov_unit_zero (S := S512x1) _ origin,
      View.readAt_eq_ld, harg2.read_unread, harg3.read_unread, harg4.read_unread, harg6.read_unread, harg7.read_unread,
      View.ld_unit_zero (S := S2048x1) origin, View.ld_unit_zero (S := S2048x256) origin,
      View.ld_unit_zero (S := S512x256) origin, View.ld_unit_zero (S := S512x1) origin]
  iexists _; isplitr
  swap; · iexact HS1
  ipureintro
  rw [View.read_writes_eq_canon _ _ _ (fun y => View.cover_of_tiledL _ S512x1.size (by sl_kernel_rfl) y)]
  sl_unfold_words
  first
    | rw [View.canon_cons_unit_zero (S := S512x1) origin]
    | rw [View.canon_unit_zero (S := S512x1) origin]
  simp only [View.readCov_unit_zero (S := S512x256) _ origin, View.readCov_unit_zero (S := S512x1) _ origin,
    View.readAt_eq_ld, harg2.read_unread, harg3.read_unread, harg4.read_unread, harg6.read_unread, harg7.read_unread,
    View.ld_unit_zero (S := S2048x1) origin, View.ld_unit_zero (S := S2048x256) origin,
    View.ld_unit_zero (S := S512x256) origin, View.ld_unit_zero (S := S512x1) origin]

/-! ## The second region's proof data -/

variable (W : (c : Dev nD) → Valuation τ sig (Elt F))

/-- Window `w`'s block at point `t`, read off its array as the second region finds it. -/
def blk1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The two totals — row sums and counts — after point `n`. -/
def totals (c : Dev nD) : (n : ℕ) → n < cfg1.N → Vec F S512x256 .f32 × Vec F S512x1 .f32
  | 0, h => (k1_pay5 (grid1.coords ⟨0, h⟩) (blk1 W c 0 ⟨0, h⟩) (blk1 W c 1 ⟨0, h⟩) (k1_pay2 (F := F)),
      k1_pay6 (grid1.coords ⟨0, h⟩) (blk1 W c 0 ⟨0, h⟩) (k1_pay3 (F := F)))
  | n + 1, h =>
    if (n + 1) % 32 = 0 then
      (k1_pay5 (grid1.coords ⟨n + 1, h⟩) (blk1 W c 0 ⟨n + 1, h⟩) (blk1 W c 1 ⟨n + 1, h⟩) (k1_pay2 (F := F)),
        k1_pay6 (grid1.coords ⟨n + 1, h⟩) (blk1 W c 0 ⟨n + 1, h⟩) (k1_pay3 (F := F)))
    else
      (k1_pay5 (grid1.coords ⟨n + 1, h⟩) (blk1 W c 0 ⟨n + 1, h⟩) (blk1 W c 1 ⟨n + 1, h⟩) (totals c n (Nat.lt_of_succ_lt h)).1,
        k1_pay6 (grid1.coords ⟨n + 1, h⟩) (blk1 W c 0 ⟨n + 1, h⟩) (totals c n (Nat.lt_of_succ_lt h)).2)

/-- At a first tile the totals start over. -/
theorem totals_first (c : Dev nD) (t : Fin cfg1.N) (h0 : t.val % 32 = 0) :
    totals W c t.val t.isLt = (k1_pay5 (grid1.coords t) (blk1 W c 0 t) (blk1 W c 1 t) (k1_pay2 (F := F)),
      k1_pay6 (grid1.coords t) (blk1 W c 0 t) (k1_pay3 (F := F))) := by
  obtain ⟨n, h⟩ := t
  cases n with
  | zero => rfl
  | succ n => exact if_pos h0

/-- At any other tile they grow from what the tile before left. -/
theorem totals_next (c : Dev nD) (t : Fin cfg1.N) (h0 : ¬t.val % 32 = 0) :
    totals W c t.val t.isLt = (k1_pay5 (grid1.coords t) (blk1 W c 0 t) (blk1 W c 1 t) (totals W c (t.val - 1) (by omega)).1,
      k1_pay6 (grid1.coords t) (blk1 W c 0 t) (totals W c (t.val - 1) (by omega)).2) := by
  obtain ⟨n, h⟩ := t
  cases n with
  | zero => exact absurd rfl h0
  | succ n => exact if_neg h0

/-- What the second kernel writes at point `t` from the totals it then holds (read only at a last tile). -/
def out1 (c : Dev nD) (t : Fin cfg1.N) : Vec F S512x256 .f32 :=
  k1_pay1 (totals W c t.val t.isLt).2 (blk1 W c 2 t) (totals W c t.val t.isLt).1

/-- The two scratch buffers, whole. -/
abbrev sumsM : Memref sig .tc .vmem S512x256 .f32 := Memref.whole cc1_scratch0
abbrev countsM : Memref sig .tc .vmem S512x1 .f32 := Memref.whole cc1_scratch1

/-- A buffer held at some contents. -/
abbrev anyAt (c : Dev nD) (r : Ref sig .tc) : sProp 𝕄 := iprop(∃ f : Buf (Elt F) ((c : Thread nD τ).loc r), ((c : Thread nD τ).loc r) ↦{fullShare} f)

/-- What the second region finds: the first region's staging buffers and the two scratch buffers at some contents. -/
theorem found1_eq (c : Dev nD) :
    (Pipeline.ΦA spec1 c : sProp 𝕄)
      = iprop(iprop(anyAt c cc0_stg0_0 ∗ anyAt c cc0_stg0_1 ∗ anyAt c cc0_stg1_0 ∗ anyAt c cc0_stg2_0 ∗ anyAt c cc0_stg2_1
          ∗ (∃ d, owns (c : Thread nD τ) sumsM fullShare d) ∗ (∃ d, owns (c : Thread nD τ) countsM fullShare d)) ∗ (∃ r, prngReg c r)) := by
  unfold Pipeline.ΦA; rw [scopedRest1_eq]; simp only [sumsM, countsM, owns_whole]; try rfl

/-- The invariant before position `n`: after the first point the scratch buffers hold the totals. -/
def held1 (c : Dev nD) : (n : ℕ) → n ≤ cfg1.N → sProp 𝕄
  | 0, _ => Pipeline.ΦA spec1 c
  | n + 1, hn => iprop(iprop(anyAt c cc0_stg0_0 ∗ anyAt c cc0_stg0_1 ∗ anyAt c cc0_stg1_0 ∗ anyAt c cc0_stg2_0 ∗ anyAt c cc0_stg2_1
          ∗ owns (c : Thread nD τ) sumsM fullShare (totals W c n hn).1 ∗ owns (c : Thread nD τ) countsM fullShare (totals W c n hn).2) ∗ (∃ r, prngReg c r))

theorem held1_zero (c : Dev nD) (n : ℕ) (h : n ≤ cfg1.N) (hz : n = 0) : held1 W c n h = Pipeline.ΦA spec1 c := by
  subst hz; rfl
theorem held1_succ (c : Dev nD) (n : ℕ) (hn : n < cfg1.N) :
    held1 W c (n + 1) hn = iprop(iprop(anyAt c cc0_stg0_0 ∗ anyAt c cc0_stg0_1 ∗ anyAt c cc0_stg1_0 ∗ anyAt c cc0_stg2_0 ∗ anyAt c cc0_stg2_1
          ∗ owns (c : Thread nD τ) sumsM fullShare (totals W c n hn).1 ∗ owns (c : Thread nD τ) countsM fullShare (totals W c n hn).2) ∗ (∃ r, prngReg c r)) := rfl
theorem held1_pos (c : Dev nD) (n : ℕ) (h : n ≤ cfg1.N) (hz : n ≠ 0) :
    held1 W c n h = iprop(iprop(anyAt c cc0_stg0_0 ∗ anyAt c cc0_stg0_1 ∗ anyAt c cc0_stg1_0 ∗ anyAt c cc0_stg2_0 ∗ anyAt c cc0_stg2_1
          ∗ owns (c : Thread nD τ) sumsM fullShare (totals W c (n - 1) (by omega)).1
          ∗ owns (c : Thread nD τ) countsM fullShare (totals W c (n - 1) (by omega)).2) ∗ (∃ r, prngReg c r)) := by
  cases n with
  | zero => exact absurd rfl hz
  | succ n => rfl

/-- The second pipeline's proof data: the arrays as found; each input's block kept, the output's block at `out1`. -/
def dat1 (c : Dev nD) : Dat τ (Elt F) Unit ℕ (UR sig nD τ) ℕ cfg1 c where
  A w := W c (Proc.devRef .tc (Pipeline.arrRef spec1 w))
  after w t := match w with
    | ⟨0, _⟩ => blk1 W c 0 t
    | ⟨1, _⟩ => blk1 W c 1 t
    | ⟨2, _⟩ => blk1 W c 2 t
    | ⟨3, _⟩ => out1 W c t
  Φ t := held1 W c t.val (Nat.le_of_lt_succ t.isLt)
  q _ := fullShare
  owed _ := 0

theorem dat1_A (c : Dev nD) (w : Fin cfg1.W) : (dat1 W c).A w = W c (Proc.devRef .tc (Pipeline.arrRef spec1 w)) := by
  dsimp only [dat1]
theorem dat1_Φ (c : Dev nD) (t : Fin cfg1.N) : (dat1 W c).Φ t.castSucc = held1 W c t.val (Nat.le_of_lt t.isLt) := by
  dsimp only [dat1]; exact Pipeline.Dat.Φ_castSucc (held1 W c) t
theorem dat1_after_0 (c : Dev nD) (t : Fin cfg1.N) : (dat1 W c).after 0 t = blk1 W c 0 t := by dsimp only [dat1]
theorem dat1_after_1 (c : Dev nD) (t : Fin cfg1.N) : (dat1 W c).after 1 t = blk1 W c 1 t := by dsimp only [dat1]
theorem dat1_after_2 (c : Dev nD) (t : Fin cfg1.N) : (dat1 W c).after 2 t = blk1 W c 2 t := by dsimp only [dat1]
theorem dat1_after_3 (c : Dev nD) (t : Fin cfg1.N) : (dat1 W c).after 3 t = out1 W c t := by dsimp only [dat1]

/-- Each input's staging buffer holds its block when the body runs. -/
theorem dat1_before_0 (c : Dev nD) (t : Fin cfg1.N) (d) : (dat1 W c).before 0 t d = blk1 W c 0 t :=
  ((dat1 W c).before_in_eq_fetched 0 rfl (fun _ => rfl) (fun _ _ _ => rfl)
      (fun t => by rw [dat1_after_0]; unfold Dat.blockOf blk1; rw [dat1_A]; try rfl) t d).trans
    (by unfold Dat.fetched Dat.blockOf blk1; rw [dat1_A]; try rfl)
theorem dat1_before_1 (c : Dev nD) (t : Fin cfg1.N) (d) : (dat1 W c).before 1 t d = blk1 W c 1 t :=
  ((dat1 W c).before_in_eq_fetched 1 rfl (fun _ => rfl) (fun _ _ _ => rfl)
      (fun t => by rw [dat1_after_1]; unfold Dat.blockOf blk1; rw [dat1_A]; try rfl) t d).trans
    (by unfold Dat.fetched Dat.blockOf blk1; rw [dat1_A]; try rfl)
theorem dat1_before_2 (c : Dev nD) (t : Fin cfg1.N) (d) : (dat1 W c).before 2 t d = blk1 W c 2 t :=
  ((dat1 W c).before_in_eq_fetched 2 rfl (fun _ => rfl) (fun _ _ _ => rfl)
      (fun t => by rw [dat1_after_2]; unfold Dat.blockOf blk1; rw [dat1_A]; try rfl) t d).trans
    (by unfold Dat.fetched Dat.blockOf blk1; rw [dat1_A]; try rfl)

/-- The second pipeline's buffers at point `t`, as the body is given them. -/
abbrev stg1_0 (t : Fin cfg1.N) : Memref sig .tc .vmem S2048x1 .i32 := win1_0.stage (cfg1.slots t 0)
abbrev stg1_1 (t : Fin cfg1.N) : Memref sig .tc .vmem S2048x256 .f32 := win1_1.stage (cfg1.slots t 1)
abbrev stg1_2 (t : Fin cfg1.N) : Memref sig .tc .vmem S512x256 .f32 := win1_2.stage (cfg1.slots t 2)
abbrev stg1_3 (t : Fin cfg1.N) : Memref sig .tc .vmem S512x256 .f32 := win1_3.stage (cfg1.slots t 3)

/-- What the second body is called with, -/
def pre1 (c : Dev nD) (t : Fin cfg1.N) : sProp 𝕄 :=
  iprop((dat1 W c).Φ t.castSucc ∗ (dat1 W c).owesAt () t.castSucc
    ∗ (∃ d, owns (c : Thread nD τ) (stg1_0 t) fullShare ((dat1 W c).before 0 t d))
    ∗ (∃ d, owns (c : Thread nD τ) (stg1_1 t) fullShare ((dat1 W c).before 1 t d))
    ∗ (∃ d, owns (c : Thread nD τ) (stg1_2 t) fullShare ((dat1 W c).before 2 t d))
    ∗ (∃ d, owns (c : Thread nD τ) (stg1_3 t) fullShare ((dat1 W c).before 3 t d)))

/-- and what it returns. -/
def post1 (c : Dev nD) (t : Fin cfg1.N) : sProp 𝕄 :=
  iprop((dat1 W c).Φ t.succ ∗ (dat1 W c).owesAt () t.succ
    ∗ (dat1 W c).leavesExact 0 t ∗ (dat1 W c).leavesExact 1 t ∗ (dat1 W c).leavesExact 2 t ∗ (dat1 W c).leavesExact 3 t)

set_option maxHeartbeats 4800000 in
/-- The second body at any point, case by case. -/
theorem body1 (c : Dev nD) (t : Fin cfg1.N) :
    pre1 W c t ⊢ wp frame (wpE (defs₀ (F := F)) Variants.none c none) Set.univ (bodyAt1 t) (fun _ => post1 W c t) := by
  unfold pre1 post1 bodyAt1
  simp only [dat1_before_0, dat1_before_1, dat1_before_2]
  rw [show (dat1 W c).owesAt () t.succ = (dat1 W c).owesAt () t.castSucc from rfl,
    show (dat1 W c).Φ t.succ = held1 W c (t.val + 1) t.isLt from rfl, held1_succ,
    show (dat1 W c).leavesExact 0 t = owns (c : Thread nD τ) (stg1_0 t) fullShare ((dat1 W c).after 0 t) from rfl, dat1_after_0,
    show (dat1 W c).leavesExact 1 t = owns (c : Thread nD τ) (stg1_1 t) fullShare ((dat1 W c).after 1 t) from rfl, dat1_after_1,
    show (dat1 W c).leavesExact 2 t = owns (c : Thread nD τ) (stg1_2 t) fullShare ((dat1 W c).after 2 t) from rfl, dat1_after_2]
  by_cases h0 : t.val % 32 = 0
  · have hf : atFirst (grid1.coords t) := (atFirst_iff t).mpr h0
    have hl : ¬atLast (grid1.coords t) := fun h => by have := (atLast_iff t).mp h; omega
    rw [Dat.leavesExact_idle (dat1 W c) 3 t (out_idle t hl) (out_noFlush t hl), totals_first W c t h0]
    have hΦ : (dat1 W c).Φ t.castSucc ⊢ Pipeline.ΦA spec1 c := by
      rw [dat1_Φ]
      by_cases hz : t.val = 0
      · rw [held1_zero W c _ _ hz]
      · rw [held1_pos W c _ _ hz, found1_eq]
        iintro ⟨⟨A0, A1, A2, A3, A4, HS0, HS1⟩, Hg⟩
        isplitl [A0 A1 A2 A3 A4 HS0 HS1]
        · isplitl [A0]; · iexact A0
          isplitl [A1]; · iexact A1
          isplitl [A2]; · iexact A2
          isplitl [A3]; · iexact A3
          isplitl [A4]; · iexact A4
          isplitl [HS0]; · iexists _; iexact HS0
          iexists _; iexact HS1
        iexact Hg
    refine (sep_mono hΦ .rfl).trans ?_
    rw [found1_eq]
    dsimp only
    iintro ⟨⟨⟨A0, A1, A2, A3, A4, HS0, HS1⟩, Hg⟩, Ho, ⟨%d0, H0⟩, ⟨%d1, H1⟩, ⟨%d2, H2⟩, ⟨%d3, H3⟩⟩
    iapply (update_run_first c (grid1.coords t) _ _ _ _ _ _ _ _ _ _ _ _ hf hl (blk1 W c 0 t) (blk1 W c 1 t) (blk1 W c 2 t) _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [A0 A1 A2 A3 A4 HS0 HS1 Hg]
    · isplitl [A0 A1 A2 A3 A4 HS0 HS1]
      · isplitl [A0]; · iexact A0
        isplitl [A1]; · iexact A1
        isplitl [A2]; · iexact A2
        isplitl [A3]; · iexact A3
        isplitl [A4]; · iexact A4
        isplitl [HS0]; · iexact HS0
        iexact HS1
      iexact Hg
    isplitl [Ho]; · iexact Ho
    isplitl [H0]; · iexact H0
    isplitl [H1]; · iexact H1
    isplitl [H2]; · iexact H2
    iexists _; iexact H3
  · have hf : ¬atFirst (grid1.coords t) := fun h => h0 ((atFirst_iff t).mp h)
    have hz : t.val ≠ 0 := fun h => h0 (by rw [h])
    rw [dat1_Φ, held1_pos W c _ _ hz]
    by_cases h1 : t.val % 32 = 31
    · have hl : atLast (grid1.coords t) := (atLast_iff t).mpr h1
      rw [show (dat1 W c).leavesExact 3 t = owns (c : Thread nD τ) (stg1_3 t) fullShare ((dat1 W c).after 3 t) from by
        unfold Dat.leavesExact; rw [out_live t hl], dat1_after_3]
      unfold out1
      rw [totals_next W c t h0]
      dsimp only
      iintro ⟨⟨⟨A0, A1, A2, A3, A4, HS0, HS1⟩, Hg⟩, Ho, ⟨%d0, H0⟩, ⟨%d1, H1⟩, ⟨%d2, H2⟩, ⟨%d3, H3⟩⟩
      iapply (update_run_last c (grid1.coords t) _ _ _ _ _ _ _ _ _ _ _ _ hf hl (blk1 W c 0 t) (blk1 W c 1 t) (blk1 W c 2 t) _ _ Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, H3, HS0, HS1⟩
      isplitl [A0 A1 A2 A3 A4 HS0 HS1 Hg]
      · isplitl [A0 A1 A2 A3 A4 HS0 HS1]
        · isplitl [A0]; · iexact A0
          isplitl [A1]; · iexact A1
          isplitl [A2]; · iexact A2
          isplitl [A3]; · iexact A3
          isplitl [A4]; · iexact A4
          isplitl [HS0]; · iexact HS0
          iexact HS1
        iexact Hg
      isplitl [Ho]; · iexact Ho
      isplitl [H0]; · iexact H0
      isplitl [H1]; · iexact H1
      isplitl [H2]; · iexact H2
      iexact H3
    · have hl : ¬atLast (grid1.coords t) := fun h => h1 ((atLast_iff t).mp h)
      rw [Dat.leavesExact_idle (dat1 W c) 3 t (out_idle t hl) (out_noFlush t hl), totals_next W c t h0]
      dsimp only
      iintro ⟨⟨⟨A0, A1, A2, A3, A4, HS0, HS1⟩, Hg⟩, Ho, ⟨%d0, H0⟩, ⟨%d1, H1⟩, ⟨%d2, H2⟩, ⟨%d3, H3⟩⟩
      iapply (update_run_mid c (grid1.coords t) _ _ _ _ _ _ _ _ _ _ _ _ hf hl (blk1 W c 0 t) (blk1 W c 1 t) (blk1 W c 2 t) _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [A0 A1 A2 A3 A4 HS0 HS1 Hg]
      · isplitl [A0 A1 A2 A3 A4 HS0 HS1]
        · isplitl [A0]; · iexact A0
          isplitl [A1]; · iexact A1
          isplitl [A2]; · iexact A2
          isplitl [A3]; · iexact A3
          isplitl [A4]; · iexact A4
          isplitl [HS0]; · iexact HS0
          iexact HS1
        iexact Hg
      isplitl [Ho]; · iexact Ho
      isplitl [H0]; · iexact H0
      isplitl [H1]; · iexact H1
      isplitl [H2]; · iexact H2
      iexists _; iexact H3

/-- The library's obligation for the second body. -/
theorem obligation1 (c : Dev nD) : BodyObligation (dat1 (F := F) W c) (defs₀ (F := F)) Variants.none () Set.univ := fun t => by
  rw [bigSep_W1, bigSep_W1,
    show defs₀ (F := F) .tc cfg1.body (cfg1.bodyArgs t (cfg1.slots t)) = bodyAt1 t by unfold defs₀; rw [Defs.onTc_tc]]
  exact triple_restated (body1 W c t) rfl .rfl fun _ => .rfl

/-- What the region is entered with is the invariant before the first point, -/
theorem held1_in (c : Dev nD) : Pipeline.ΦA spec1 c ⊢ (dat1 W c).Φ 0 := by
  rw [show (dat1 W c).Φ 0 = held1 W c 0 (Nat.zero_le _) from rfl, held1_zero W c 0 _ rfl]

/-- and the invariant after the last point gives it back, the totals forgotten. -/
theorem held1_out (c : Dev nD) : (dat1 W c).Φ (Fin.last cfg1.N) ⊢ Pipeline.ΦA spec1 c := by
  rw [show (dat1 W c).Φ (Fin.last cfg1.N) = held1 W c cfg1.N (Nat.le_of_lt_succ (Fin.last cfg1.N).isLt) from rfl,
    held1_pos W c _ _ (by rw [show cfg1.N = 512 from N_1]; decide), found1_eq]
  iintro ⟨⟨A0, A1, A2, A3, A4, HS0, HS1⟩, Hg⟩
  isplitl [A0 A1 A2 A3 A4 HS0 HS1]
  · isplitl [A0]; · iexact A0
    isplitl [A1]; · iexact A1
    isplitl [A2]; · iexact A2
    isplitl [A3]; · iexact A3
    isplitl [A4]; · iexact A4
    isplitl [HS0]; · iexists _; iexact HS0
    iexists _; iexact HS1
  iexact Hg

end Cert.KernelIdeal.Body

end
-- ==== Proof.IdealRun.lean ====
/- The whole program's run: the first region, then the second, from any memory with zero counters. -/
module

public import proofs.«01_k».proof.Proof.IdealAssignBody
public import proofs.«01_k».proof.Proof.IdealUpdateBody
public import Idealize.ShloMosaic.Lib.Pipeline.Frame
public import Idealize.ShloMosaic.Lib.Pipeline.Regions
public import Idealize.ShloMosaic.Lib.Pipeline.RegionArraysS

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ
open Idealize.ShloMosaic.Pipeline (Seg RegionSeg)

variable (m : (ℓ : Loc nD τ sig) → Buf (Elt F) ℓ) (ρ : Dev nD → PrngReg)

/-! ## The buffers' contents before, between and after the two regions -/

/-- The unscoped buffers as launched, -/
def at0 (c : Dev nD) : Valuation τ sig (Elt F) := fun b => m (c, b)
/-- after the first region, -/
def at1 (c : Dev nD) : Valuation τ sig (Elt F) := Pipeline.afterRegion (dat0 (at0 m) c) (at0 m c)
/-- and after the second. -/
def at2 (c : Dev nD) : Valuation τ sig (Elt F) := Pipeline.afterRegion (dat1 (at1 m) c) (at1 m c)

/-- The proof data of the two pipelines. -/
def datas : (p : Fin 2) → (c : Dev nD) → Dat τ (Elt F) Unit ℕ (UR sig nD τ) ℕ (cfgs p) c
  | ⟨0, _⟩ => fun c => dat0 (at0 m) c
  | ⟨1, _⟩ => fun c => dat1 (at1 m) c

/-- No pallas_call has a prefetched table. -/
abbrev noTables : (p : Fin 2) → (pcfgs (F := F) p).Adm := fun p => (cfgs p).toPCfg_adm

/-- The TensorCores' cells are on one level; nothing is owed anywhere. -/
abbrev lvls : GSem nD τ sig → Finset Unit := fun g => if g.1.2 = .tc then {()} else ∅
abbrev lvl : GSem nD τ sig → Unit → ℕ := fun _ _ => 0

theorem cut (p : Fin 2) : Pipeline.LevelCut (nD := nD) (τ := τ) (pcfgs (F := F)) noTables () lvls lvl p (0 : Dev nD → CellTallies nD τ sig Unit) (fun _ => 0) where
  hι := fun _ _ _ => Finset.mem_singleton.mpr rfl
  hιb := fun _ _ _ => le_rfl
  hD := fun _ _ _ h => absurd h (lt_irrefl _)

/-- Core `c`'s generator register at some state. -/
abbrev gen (c : Dev nD) : sProp 𝕄 := iprop(∃ r, prngReg c r)

/-- The first region entered from the buffers as launched. -/
def region0 : RegionSeg (pcfgs (F := F)) noTables (datas m) () defs₀ Variants.none lvls lvl 0 :=
  RegionSeg.ofHeldIn (pcfgs (F := F)) noTables (datas m) () defs₀ Variants.none lvls lvl 0 (fun _ => 0)
    (Pipeline.ucRefs τ sig) gen gen launch0.toP rfl
    (fun c => (obligation0 (at0 m) c).loose) (fun _ _ => rfl) (fun _ => rfl)
    (fun c => (dat0 (at0 m) c).share_full fun _ => rfl) (fun _ => .rfl) (fun _ => .rfl)
    (fun _ => 0) (cut 0) (fun _ => iprop(emp)) (at0 m) (fun _ _ => rfl)

/-- The second region entered from the buffers as the first left them. -/
def region1 : RegionSeg (pcfgs (F := F)) noTables (datas m) () defs₀ Variants.none lvls lvl 1 :=
  RegionSeg.ofHeldIn (pcfgs (F := F)) noTables (datas m) () defs₀ Variants.none lvls lvl 1 (fun _ => 0)
    (Pipeline.ucRefs τ sig) gen gen launch1.toP rfl
    (fun c => (obligation1 (at1 m) c).loose) (fun _ _ => rfl) (fun _ => rfl)
    (fun c => (dat1 (at1 m) c).share_full fun _ => rfl) (held1_in (at1 m)) (held1_out (at1 m))
    (fun _ => 0) (cut 1) (fun _ => iprop(emp)) (at1 m) (fun _ _ => rfl)

/-- What rides beside the buffers between the regions. -/
abbrev beside (c : Dev nD) : sProp 𝕄 :=
  iprop((∃ Wd, owes (c : Thread nD τ) (0 : CellTallies nD τ sig Unit) Wd) ∗ gen c ∗ emp)

theorem arrs_sub0 : Pipeline.arrRefs spec0 ⊆ Pipeline.ucRefs τ sig := Pipeline.arrRefs_sub_ucRefs spec0 (by decide)
theorem arrs_sub1 : Pipeline.arrRefs spec1 ⊆ Pipeline.ucRefs τ sig := Pipeline.arrRefs_sub_ucRefs spec1 (by decide)

theorem region0_pre (c : Dev nD) :
    iprop(StableHlo.held (c : Thread nD τ) (Pipeline.ucRefs τ sig) (at0 m c) ∗ beside c) ⊢ (region0 (F := F) m).pre c := by
  unfold region0
  refine BIBase.Entails.trans ?_ (RegionSeg.ofHeldIn_pre arrs_sub0 c)
  exact .rfl
theorem region0_post (c : Dev nD) :
    (region0 (F := F) m).post c ⊢ iprop(StableHlo.held (c : Thread nD τ) (Pipeline.ucRefs τ sig) (at1 m c) ∗ beside c) := by
  unfold region0
  exact RegionSeg.ofHeldIn_post arrs_sub0 c
theorem region1_pre (c : Dev nD) :
    iprop(StableHlo.held (c : Thread nD τ) (Pipeline.ucRefs τ sig) (at1 m c) ∗ beside c) ⊢ (region1 (F := F) m).pre c := by
  unfold region1
  refine BIBase.Entails.trans ?_ (RegionSeg.ofHeldIn_pre arrs_sub1 c)
  exact .rfl
theorem region1_post (c : Dev nD) :
    (region1 (F := F) m).post c ⊢ iprop(StableHlo.held (c : Thread nD τ) (Pipeline.ucRefs τ sig) (at2 m c) ∗ beside c) := by
  unfold region1
  exact RegionSeg.ofHeldIn_post arrs_sub1 c

/-! ## The arguments are kept -/

theorem at2_keeps (c : Dev nD) (r : Ref sig .tc) (h0 : ∀ w, Pipeline.arrRef cfg0.spec w = r → (cfg0.win w).isOut = false)
    (h1 : ∀ w, Pipeline.arrRef cfg1.spec w = r → (cfg1.win w).isOut = false) :
    at2 m c (Proc.devRef .tc r) = m ((c : Thread nD τ).loc r) :=
  (Pipeline.afterRegion_keeps (dat1 (at1 m) c) (at1 m c) launch1.win.arr_inj (dat1_A (at1 m) c) r h1).trans
    ((Pipeline.afterRegion_keeps (dat0 (at0 m) c) (at0 m c) launch0.win.arr_inj (dat0_A (at0 m) c) r h0).trans rfl)

theorem at2_arg0 (c : Dev nD) : at2 m c (Proc.devRef .tc main_arg0) = m ((c : Thread nD τ).loc main_arg0) :=
  at2_keeps m c main_arg0 (by decide) (by decide)
theorem at2_arg1 (c : Dev nD) : at2 m c (Proc.devRef .tc main_arg1) = m ((c : Thread nD τ).loc main_arg1) :=
  at2_keeps m c main_arg1 (by decide) (by decide)

/-! ## The run -/

/-- The TensorCore has no unscoped semaphore. -/
theorem sems_scoped : ∀ sm : SemLoc sig, sm.isScoped .tc = true := by decide

/-- The launch element of the pipelines' resources. -/
def start : UR sig nD τ := initOf (Pipeline.cells cfgs cellOf_inj) (Pipeline.launchToks cfgs cellOf_inj)

set_option backward.isDefEq.respectTransparency.types false in
/-- From any memory with zero counters the program runs to its end: the arguments are as launched, the result is what
    the second pipeline wrote back, and every counter is zero. -/
theorem run_both : θ_run defs (onTc (τ := τ) (main (F := F))) ⟨m, fun _ => 0, ρ⟩ (fun r => (∀ c : Dev nD,
      r.2.mem ((c.tc : Thread nD τ).loc main_v1) = at2 m c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine Pipeline.θ_run_regions_kit_dev_sems (pcfgs (F := F)) noTables (datas m) () cellOf_inj emb₁ defs₀ Variants.none lvls lvl m ρ main
    (fun _ => [.region (region0 m), .region (region1 m)])
    (fun c Q => by
      rewrite [main_chain c, Seg.run_eq_chain]
      exact .rfl)
    (fun c => by simp only [Seg.pipes_region, Seg.pipes_nil]; decide)
    (O₀ := 0) (hL := fun g hg => if_neg hg) (G := fun _ => iprop(emp)) (u₀ := start)
    (hu₀ := by
      unfold start
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m c) ∗ beside c))
    (Tₙ := fun c => StableHlo.held (c : Thread nD τ) (Pipeline.ucRefs τ sig) (at2 m c))
    (hch := fun c => ⟨region0_pre m c, (region0_post m c).trans (region1_pre m c), (region1_post m c).trans (by
      iintro ⟨Hh, HO, -⟩
      isplitl [Hh] <;> iassumption)⟩)
    (hinit := ?_) (QY := fun c s => s.mem ((c.tc : Thread nD τ).loc main_v1) = at2 m c (Proc.devRef .tc main_v1)
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_) (hQ := fun _ h hz => ⟨h, funext fun g => hz g (.inr (sems_scoped g.2))⟩)
  · refine Pipeline.initEach lvls lvl fun c => ?_
    rw [show unscopedBufs c (fun b => m ((c.tc : Thread nD τ).loc b)) = StableHlo.held (c.tc : Thread nD τ) (Pipeline.ucRefs τ sig) (at0 m c)
          from Pipeline.unscopedBufs_held (Ix := Unit) (Name := ℕ) (U := UR sig nD τ) (Lvl := ℕ) c (at0 m c)]
    iintro ⟨⟨Hh, -, HO, -, Hp, -⟩, -⟩
    imodintro
    isplitl [Hh]; · iexact Hh
    isplitl [HO]; · iexists _; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (at2 m c) s') $$ [Hh HSI]
    · isplitl [Hh] <;> iassumption
    icases Hr with ⟨%h, HSI⟩
    imodintro
    isplitr
    · ipureintro
      exact ⟨h (Proc.devRef .tc main_v1) (Finset.mem_filter.mpr ⟨StableHlo.devRef_mem_tcRefs main_v1, by decide⟩),
        (h (Proc.devRef .tc main_arg0) (Finset.mem_filter.mpr ⟨StableHlo.devRef_mem_tcRefs main_arg0, by decide⟩)).trans (at2_arg0 m c),
        (h (Proc.devRef .tc main_arg1) (Finset.mem_filter.mpr ⟨StableHlo.devRef_mem_tcRefs main_arg1, by decide⟩)).trans (at2_arg1 m c)⟩
    · iexact HSI

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2, h.2⟩) (run_both m ρ)

end Cert.KernelIdeal.Body

end
-- ==== Proof.PlainRun.lean ====
/- The plain program's run: seventy-two host operations in a line, and what each leaves named as a function of the
   two arguments. -/
module

public import proofs.«01_k».proof.Proof.Gen.ReferenceIdeal
public import Idealize.ShloMosaic.Lib.StableHlo.Run
public import Idealize.ShloMosaic.Lib.StableHlo.RunRead
public import Idealize.ShloMosaic.Lib.Claim

@[expose] public section

noncomputable section

namespace Cert.ReferenceIdeal.Body

open Cert.ReferenceIdeal Cert.ReferenceIdeal.Gen
open Idealize.ShloMosaic Idealize.ShloMosaic.TcCoe Idealize.ShloMosaic.StableHlo Idealize.SL.Sem

variable {F : FTy → Type} [FloatOps F]

/-! ## What the operations compute -/

/-- The rows' norms of `x`, a column. -/
def normX (x : FVec F S65536x256 .f32) : FVec F S65536x1 .f32 :=
  Host.sqrt (broadcastInDim S65536x1 ![0] bcast_S65536_S65536x1_0
    (Host.reduceAdd (mulf x x) (constant S_ .f32 0x00000000#32) reducesTo_S65536x256_S65536_d1 h_S_))
/-- The rows of `x` over their norms, those bounded below. -/
def unitX (x : FVec F S65536x256 .f32) : FVec F S65536x256 .f32 :=
  Host.divf x (broadcastInDim S65536x256 ![0, 1] bcast_S65536x1_S65536x256_0_1
    (maximumf (normX x) (broadcastInDim S65536x1 ![] bcast_S_S65536x1 (constant S_ .f32 0x2B8CBCCC#32))))
/-- The groups' norms, a column. -/
def normG (g : FVec F S8192x256 .f32) : FVec F S8192x1 .f32 :=
  Host.sqrt (broadcastInDim S8192x1 ![0] bcast_S8192_S8192x1_0
    (Host.reduceAdd (mulf g g) (constant S_ .f32 0x00000000#32) reducesTo_S8192x256_S8192_d1 h_S_))
/-- The groups over their norms, those bounded below. -/
def unitG (g : FVec F S8192x256 .f32) : FVec F S8192x256 .f32 :=
  Host.divf g (broadcastInDim S8192x256 ![0, 1] bcast_S8192x1_S8192x256_0_1
    (maximumf (normG g) (broadcastInDim S8192x1 ![] bcast_S_S8192x1 (constant S_ .f32 0x2B8CBCCC#32))))
/-- Every row against every group. -/
def logits (x : FVec F S65536x256 .f32) (g : FVec F S8192x256 .f32) : FVec F S65536x8192 .f32 :=
  Host.dotGeneral dot_S65536x256_S256x8192_S65536x8192_1_0_0_1_n_n none (unitX x)
    (transpose S256x8192 [1, 0] (unitG g) transposes_S8192x256_S256x8192_1_0)
/-- Each row's group. -/
def group (x : FVec F S65536x256 .f32) (g : FVec F S8192x256 .f32) : IVec S65536 32 := fun j =>
  (Host.argReduce reducer_argmax_f32_i32 (logits x g) (iotaInDim S65536x8192 32 1) (constant S_ .f32 0xFF800000#32)
    (constantI S_ 32 0#32) reducesTo_S65536x8192_S65536_d1 h_S_ j).2
/-- Indices below zero counted from the end, as a column. -/
def wrapped (a : IVec S65536 32) : IVec S65536x1 32 :=
  broadcastInDim S65536x1 ![0] bcast_S65536_S65536x1_0
    (select (cmpi .slt a (broadcastInDim S65536 ![] bcast_S_S65536 (constantI S_ 32 0#32)))
      (addi a (broadcastInDim S65536 ![] bcast_S_S65536 (constantI S_ 32 8192#32))) a)
/-- How many rows each group has. -/
def counts (a : IVec S65536 32) : IVec S8192 32 :=
  Host.scatter scatter_S8192_S65536x1_S65536_n_0_0_1 IntOp.addi
    (broadcastInDim S8192 ![] bcast_S_S8192 (constantI S_ 32 0#32))
    (wrapped (maxsi (broadcastInDim S65536 ![] bcast_S_S65536 (constantI S_ 32 0#32)) a))
    (broadcastInDim S65536 ![] bcast_S_S65536 (constantI S_ 32 1#32))
/-- What each row adds to its group. -/
def share (x : FVec F S65536x256 .f32) (a : IVec S65536 32) : FVec F S65536x256 .f32 :=
  Host.divf (mulf (broadcastInDim S65536x256 ![] bcast_S_S65536x256 (constant S_ .f32 0x3C23D70A#32)) x)
    (broadcastInDim S65536x256 ![0, 1] bcast_S65536x1_S65536x256_0_1 (sitofp .f32
      (broadcastInDim S65536x1 ![0] bcast_S65536_S65536x1_0
        (Host.gather gather_S8192_S65536x1_S65536_n_0_n_n_0_1_1 (counts a) (wrapped a)))))
/-- The groups moved towards their rows' means. -/
def moved (x : FVec F S65536x256 .f32) (g : FVec F S8192x256 .f32) (a : IVec S65536 32) : FVec F S8192x256 .f32 :=
  Host.scatterAdd scatter_S8192x256_S65536x1_S65536x256_1_0_0_1
    (mulf (broadcastInDim S8192x256 ![] bcast_S_S8192x256 (constant S_ .f32 0x3F7D70A4#32)) g) (wrapped a) (share x a)

/-! ## The run -/

/-- The operations up to the rows' groups, the calls' in their places, -/
abbrev opsA : List (HloOp τ sig (Elt F)) :=
  [
    TRef.binary (.of main_arg0) (.of main_arg0) main_call0.v0 mulf,
    TRef.nullary main_call0.cst (constant S_ .f32 0x00000000#32),
    TRef.binary main_call0.v0 main_call0.cst main_call0.v1 (fun x v => Host.reduceAdd x v reducesTo_S65536x256_S65536_d1 h_S_),
    TRef.unary main_call0.v1 main_call0.v2 (broadcastInDim S65536x1 ![0] bcast_S65536_S65536x1_0),
    TRef.unary main_call0.v2 main_call0.v3 Host.sqrt,
    nullary main_cst (constant S_ .f32 0x2B8CBCCC#32),
    unary main_cst main_v1 (broadcastInDim S65536x1 ![] bcast_S_S65536x1),
    binary main_v0 main_v1 main_v2 (maximumf),
    unary main_v2 main_v3 (broadcastInDim S65536x256 ![0, 1] bcast_S65536x1_S65536x256_0_1),
    binary main_arg0 main_v3 main_v4 (Host.divf),
    TRef.binary (.of main_arg1) (.of main_arg1) main_call1.v0 mulf,
    TRef.nullary main_call1.cst (constant S_ .f32 0x00000000#32),
    TRef.binary main_call1.v0 main_call1.cst main_call1.v1 (fun x v => Host.reduceAdd x v reducesTo_S8192x256_S8192_d1 h_S_),
    TRef.unary main_call1.v1 main_call1.v2 (broadcastInDim S8192x1 ![0] bcast_S8192_S8192x1_0),
    TRef.unary main_call1.v2 main_call1.v3 Host.sqrt,
    nullary main_cst_0 (constant S_ .f32 0x2B8CBCCC#32),
    unary main_cst_0 main_v6 (broadcastInDim S8192x1 ![] bcast_S_S8192x1),
    binary main_v5 main_v6 main_v7 (maximumf),
    unary main_v7 main_v8 (broadcastInDim S8192x256 ![0, 1] bcast_S8192x1_S8192x256_0_1),
    binary main_arg1 main_v8 main_v9 (Host.divf),
    unary main_v9 main_v10 ((transpose S256x8192 [1, 0] · transposes_S8192x256_S256x8192_1_0)),
    binary main_v4 main_v10 main_v11 ((fun l r => Host.dotGeneral dot_S65536x256_S256x8192_S65536x8192_1_0_0_1_n_n none l r)),
    TRef.nullary main_call2.v0 (iotaInDim S65536x8192 32 1),
    TRef.nullary main_call2.cst (constant S_ .f32 0xFF800000#32),
    TRef.nullary main_call2.c (constantI S_ 32 0#32),
    TRef.quaternary (.of main_v11) main_call2.v0 main_call2.cst main_call2.c main_call2.v1_0 (fun x y u v j => (Host.argReduce reducer_argmax_f32_i32 x y u v reducesTo_S65536x8192_S65536_d1 h_S_ j).1),
    TRef.quaternary (.of main_v11) main_call2.v0 main_call2.cst main_call2.c main_call2.v1_1 (fun x y u v j => (Host.argReduce reducer_argmax_f32_i32 x y u v reducesTo_S65536x8192_S65536_d1 h_S_ j).2) ]
/-- and those after. -/
abbrev opsB : List (HloOp τ sig (Elt F)) :=
  [
    nullary main_c (constantI S_ 32 0#32),
    unary main_c main_v13 (broadcastInDim S8192 ![] bcast_S_S8192),
    nullary main_c_1 (constantI S_ 32 0#32),
    TRef.unary (.of main_c_1) main_call3.v0 id,
    TRef.unary main_call3.v0 main_call3.v1 (broadcastInDim S65536 ![] bcast_S_S65536),
    TRef.binary main_call3.v1 (.of main_v12) main_call3.v2 maxsi,
    nullary main_c_2 (constantI S_ 32 0#32),
    unary main_c_2 main_v15 (broadcastInDim S65536 ![] bcast_S_S65536),
    binary main_v14 main_v15 main_v16 (cmpi .slt),
    nullary main_c_3 (constantI S_ 32 8192#32),
    unary main_c_3 main_v17 (broadcastInDim S65536 ![] bcast_S_S65536),
    binary main_v14 main_v17 main_v18 (addi),
    ternary main_v16 main_v18 main_v14 main_v19 (select),
    unary main_v19 main_v20 (broadcastInDim S65536x1 ![0] bcast_S65536_S65536x1_0),
    nullary main_c_4 (constantI S_ 32 1#32),
    unary main_c_4 main_v21 (broadcastInDim S65536 ![] bcast_S_S65536),
    ternary main_v13 main_v20 main_v21 main_v22 ((fun x i u => Host.scatter scatter_S8192_S65536x1_S65536_n_0_0_1 IntOp.addi x i u)),
    nullary main_cst_5 (constant S_ .f32 0x3F7D70A4#32),
    unary main_cst_5 main_v23 (broadcastInDim S8192x256 ![] bcast_S_S8192x256),
    binary main_v23 main_arg1 main_v24 (mulf),
    nullary main_cst_6 (constant S_ .f32 0x3C23D70A#32),
    unary main_cst_6 main_v25 (broadcastInDim S65536x256 ![] bcast_S_S65536x256),
    binary main_v25 main_arg0 main_v26 (mulf),
    nullary main_c_7 (constantI S_ 32 0#32),
    unary main_c_7 main_v27 (broadcastInDim S65536 ![] bcast_S_S65536),
    binary main_v12 main_v27 main_v28 (cmpi .slt),
    nullary main_c_8 (constantI S_ 32 8192#32),
    unary main_c_8 main_v29 (broadcastInDim S65536 ![] bcast_S_S65536),
    binary main_v12 main_v29 main_v30 (addi),
    ternary main_v28 main_v30 main_v12 main_v31 (select),
    unary main_v31 main_v32 (broadcastInDim S65536x1 ![0] bcast_S65536_S65536x1_0),
    binary main_v22 main_v32 main_v33 ((fun x i => Host.gather gather_S8192_S65536x1_S65536_n_0_n_n_0_1_1 x i)),
    unary main_v33 main_v34 (broadcastInDim S65536x1 ![0] bcast_S65536_S65536x1_0),
    unary main_v34 main_v35 (sitofp .f32),
    unary main_v35 main_v36 (broadcastInDim S65536x256 ![0, 1] bcast_S65536x1_S65536x256_0_1),
    binary main_v26 main_v36 main_v37 (Host.divf),
    nullary main_c_9 (constantI S_ 32 0#32),
    unary main_c_9 main_v38 (broadcastInDim S65536 ![] bcast_S_S65536),
    binary main_v12 main_v38 main_v39 (cmpi .slt),
    nullary main_c_10 (constantI S_ 32 8192#32),
    unary main_c_10 main_v40 (broadcastInDim S65536 ![] bcast_S_S65536),
    binary main_v12 main_v40 main_v41 (addi),
    ternary main_v39 main_v41 main_v12 main_v42 (select),
    unary main_v42 main_v43 (broadcastInDim S65536x1 ![0] bcast_S65536_S65536x1_0),
    ternary main_v24 main_v43 main_v37 main_v44 ((fun x i u => Host.scatterAdd scatter_S8192x256_S65536x1_S65536x256_1_0_0_1 x i u)) ]
/-- The whole line. -/
abbrev ops : List (HloOp τ sig (Elt F)) := opsA ++ opsB

set_option maxRecDepth 4000 in
/-- The program is that line. -/
theorem main_line (c : Dev nD) : main (F := F) c = seq ops := by
  simp only [main, fn_norm.body, fn_norm_0.body, fn_argmax.body, fn_clip.body, seq, bind_assoc, pure_bind]
  rfl

/-- The rows' groups after the first part. -/
theorem group_eq (V : Valuation τ sig (Elt F)) :
    after opsA V (main_v12 : DevRef τ sig) = group (V (main_arg0 : DevRef τ sig)) (V (main_arg1 : DevRef τ sig)) := by
  after_reads_simp
  rfl

/-- The result buffer after the second. -/
theorem moved_eq (V : Valuation τ sig (Elt F)) :
    after opsB V (main_v44 : DevRef τ sig)
      = moved (V (main_arg0 : DevRef τ sig)) (V (main_arg1 : DevRef τ sig)) (V (main_v12 : DevRef τ sig)) := by
  after_reads_simp
  rfl

/-- No operation writes an argument. -/
theorem arg0_A (V : Valuation τ sig (Elt F)) : after opsA V (main_arg0 : DevRef τ sig) = V (main_arg0 : DevRef τ sig) := by
  after_reads_simp
theorem arg1_A (V : Valuation τ sig (Elt F)) : after opsA V (main_arg1 : DevRef τ sig) = V (main_arg1 : DevRef τ sig) := by
  after_reads_simp
theorem arg0_B (V : Valuation τ sig (Elt F)) : after opsB V (main_arg0 : DevRef τ sig) = V (main_arg0 : DevRef τ sig) := by
  after_reads_simp
theorem arg1_B (V : Valuation τ sig (Elt F)) : after opsB V (main_arg1 : DevRef τ sig) = V (main_arg1 : DevRef τ sig) := by
  after_reads_simp

theorem arg0_eq (V : Valuation τ sig (Elt F)) : after ops V (main_arg0 : DevRef τ sig) = V (main_arg0 : DevRef τ sig) := by
  rw [after_append, arg0_B, arg0_A]
theorem arg1_eq (V : Valuation τ sig (Elt F)) : after ops V (main_arg1 : DevRef τ sig) = V (main_arg1 : DevRef τ sig) := by
  rw [after_append, arg1_B, arg1_A]

/-- The result buffer after the whole line. -/
theorem result_eq (V : Valuation τ sig (Elt F)) :
    after ops V (main_v44 : DevRef τ sig) = moved (V (main_arg0 : DevRef τ sig)) (V (main_arg1 : DevRef τ sig))
      (group (V (main_arg0 : DevRef τ sig)) (V (main_arg1 : DevRef τ sig))) := by
  rw [after_append, moved_eq, group_eq, arg0_A, arg1_A]

theorem no_scoped_refs : (Finset.univ.filter fun b : Ref sig .tc => b.isScoped) = ∅ := by decide
theorem no_scoped_sems : (Finset.univ.filter fun sm : SemLoc sig => sm.isScoped .tc) = ∅ := by decide

/-- Every operation's buffers are the TensorCore's. -/
theorem ops_tc : (ops : List (HloOp τ sig (Elt F))).Forall fun op => op.bufs ⊆ tcRefs τ sig :=
  ⟨binary_bufs_sub .., nullary_bufs_sub .., binary_bufs_sub .., unary_bufs_sub .., unary_bufs_sub .., nullary_bufs_sub ..,
    unary_bufs_sub .., binary_bufs_sub .., unary_bufs_sub .., binary_bufs_sub .., binary_bufs_sub .., nullary_bufs_sub ..,
    binary_bufs_sub .., unary_bufs_sub .., unary_bufs_sub .., nullary_bufs_sub .., unary_bufs_sub .., binary_bufs_sub ..,
    unary_bufs_sub .., binary_bufs_sub .., unary_bufs_sub .., binary_bufs_sub .., nullary_bufs_sub .., nullary_bufs_sub ..,
    nullary_bufs_sub .., quaternary_bufs_sub .., quaternary_bufs_sub .., nullary_bufs_sub .., unary_bufs_sub ..,
    nullary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    nullary_bufs_sub .., unary_bufs_sub .., ternary_bufs_sub .., nullary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    ternary_bufs_sub ..⟩

/-- The result is `moved`, the arguments are kept, and every counter is zero. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v44) = moved (m ((c.tc : Thread nD τ).loc main_arg0)) (m ((c.tc : Thread nD τ).loc main_arg1))
          (group (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => ⟨(h c main_v44).trans (result_eq _), (h c main_arg0).trans (arg0_eq _),
      (h c main_arg1).trans (arg1_eq _)⟩, Idealize.ShloMosaic.sem_eq_zero_of_no_sems (by decide) r.2⟩)
    (run_seq no_scoped_refs no_scoped_sems defs main (fun _ => ops) main_line (fun _ => ops_tc) m ρ)

end Cert.ReferenceIdeal.Body

end
-- ==== Proof.FirstMax.lean ====
/- First places of a maximum, and the extended-real facts about lengths and scores that both programs need. -/
module

public import Idealize.ShloMosaic.Lib.Pointwise
public import Idealize.ShloMosaic.Lib.WordCmp
public import Idealize.ShloMosaic.Lib.IdealHost

@[expose] public section

set_option maxRecDepth 16384

noncomputable section

namespace Cert.Shared

open Idealize.ShloMosaic

/-! ## The first place of a maximum -/

/-- `a` is the first place among `0 … N - 1` at which `f` is largest. -/
def IsFirstMax (f : ℕ → EReal) (N a : ℕ) : Prop := a < N ∧ (∀ n < N, f n ≤ f a) ∧ ∀ n < a, f n < f a

/-- There is at most one such place. -/
theorem IsFirstMax.unique {f : ℕ → EReal} {N a b : ℕ} (ha : IsFirstMax f N a) (hb : IsFirstMax f N b) : a = b := by
  rcases lt_trichotomy a b with h | h | h
  · exact absurd (ha.2.1 b hb.1) (not_le.2 (hb.2.2 a h))
  · exact h
  · exact absurd (hb.2.1 a ha.1) (not_le.2 (ha.2.2 b h))

/-- Two functions in the same order have their maxima at the same places. -/
theorem IsFirstMax.congr {f g : ℕ → EReal} {N a : ℕ} (ha : IsFirstMax f N a)
    (h : ∀ m < N, ∀ n < N, f m < f n → g m < g n) (h' : ∀ m < N, ∀ n < N, f m ≤ f n → g m ≤ g n) : IsFirstMax g N a :=
  ⟨ha.1, fun n hn => h' n hn a ha.1 (ha.2.1 n hn), fun n hn => h n (hn.trans ha.1) a ha.1 (ha.2.2 n hn)⟩

/-- A further stretch whose first maximum `N + b` is above the best so far: it takes over. -/
theorem IsFirstMax.append_gt {f : ℕ → EReal} {N K a b : ℕ} (ha : IsFirstMax f N a) (hb : IsFirstMax (fun n => f (N + n)) K b)
    (h : f a < f (N + b)) : IsFirstMax f (N + K) (N + b) := by
  refine ⟨by have := hb.1; omega, fun n hn => ?_, fun n hn => ?_⟩
  · by_cases hl : n < N
    · exact (ha.2.1 n hl).trans h.le
    · obtain ⟨k, rfl⟩ := Nat.exists_eq_add_of_le (not_lt.1 hl); exact hb.2.1 k (by omega)
  · by_cases hl : n < N
    · exact (ha.2.1 n hl).trans_lt h
    · obtain ⟨k, rfl⟩ := Nat.exists_eq_add_of_le (not_lt.1 hl); exact hb.2.2 k (by omega)

/-- A further stretch whose maximum is not above the best so far: the best stays. -/
theorem IsFirstMax.append_le {f : ℕ → EReal} {N K a b : ℕ} (ha : IsFirstMax f N a) (hb : IsFirstMax (fun n => f (N + n)) K b)
    (h : f (N + b) ≤ f a) : IsFirstMax f (N + K) a := by
  refine ⟨by have := ha.1; omega, fun n hn => ?_, ha.2.2⟩
  by_cases hl : n < N
  · exact ha.2.1 n hl
  · obtain ⟨k, rfl⟩ := Nat.exists_eq_add_of_le (not_lt.1 hl); exact (hb.2.1 k (by omega)).trans h

/-! ## Folds over a row -/

/-- The maximum of a row, started from `-∞`, is attained and bounds the row. -/
theorem fold_max_spec {N : ℕ} (hN : 0 < N) (f : Fin N → EReal) :
    (∃ l, Finset.fold max ⊥ f Finset.univ = f l) ∧ ∀ l, f l ≤ Finset.fold max ⊥ f Finset.univ := by
  have e : Finset.fold max ⊥ f Finset.univ = Finset.univ.sup f := rfl
  rw [e]
  refine ⟨?_, fun l => Finset.le_sup (Finset.mem_univ l)⟩
  obtain ⟨l, -, h⟩ := Finset.exists_mem_eq_sup Finset.univ ⟨⟨0, hN⟩, Finset.mem_univ _⟩ f
  exact ⟨l, h⟩

/-- The signed minimum of words over a set is the start or one of them, and is at most each. -/
theorem fold_minsi_spec {N : ℕ} (i : BitVec 32) (v : Fin N → BitVec 32) (S : Finset (Fin N)) :
    (Finset.fold IntOp.minsi i v S = i ∨ ∃ l ∈ S, Finset.fold IntOp.minsi i v S = v l)
      ∧ ∀ l ∈ S, (Finset.fold IntOp.minsi i v S).toInt ≤ (v l).toInt := by
  induction S using Finset.cons_induction with
  | empty => exact ⟨.inl rfl, fun l hl => absurd hl (Finset.notMem_empty l)⟩
  | cons a S ha ih =>
    rw [Finset.fold_cons]
    generalize Finset.fold IntOp.minsi i v S = m at ih
    unfold IntOp.minsi
    by_cases h : (v a).slt m = true
    · rw [if_pos h]
      have h' := BitVec.slt_iff_toInt_lt.1 h
      refine ⟨.inr ⟨a, Finset.mem_cons_self a S, rfl⟩, fun l hl => ?_⟩
      rcases Finset.mem_cons.1 hl with rfl | hl
      · exact le_refl _
      · exact h'.le.trans (ih.2 l hl)
    · rw [if_neg h]
      have h' := not_lt.1 fun q => h (BitVec.slt_iff_toInt_lt.2 q)
      refine ⟨?_, fun l hl => ?_⟩
      · rcases ih.1 with q | ⟨l, hl, q⟩
        · exact .inl q
        · exact .inr ⟨l, Finset.mem_cons_of_mem hl, q⟩
      · rcases Finset.mem_cons.1 hl with rfl | hl
        · exact h'
        · exact ih.2 l hl

/-- The first place of a row's maximum, as the two folds compute it: the least index at which the row reaches its maximum. -/
theorem first_of_folds (f : ℕ → EReal) (p : Fin 1024 → EReal) (hp : ∀ l, p l = f l.val) :
    ∃ a, IsFirstMax f 1024 a ∧ Finset.fold max ⊥ p Finset.univ = f a
      ∧ Finset.fold IntOp.minsi 2147483647#32
          (fun l => if Finset.fold max ⊥ p Finset.univ ≤ p l then BitVec.ofNat 32 l.val else 1024#32) Finset.univ = BitVec.ofNat 32 a := by
  obtain ⟨⟨l0, h0⟩, hb⟩ := fold_max_spec (by decide) p
  generalize Finset.fold max ⊥ p Finset.univ = M at h0 hb ⊢
  obtain ⟨h1, h2⟩ := fold_minsi_spec 2147483647#32 (fun l => if M ≤ p l then BitVec.ofNat 32 l.val else 1024#32) Finset.univ
  generalize Finset.fold IntOp.minsi _ _ _ = w at h1 h2 ⊢
  have e : ∀ l : Fin 1024, (BitVec.ofNat 32 l.val).toInt = (l.val : ℤ) := fun l =>
    WordCmp.toInt_ofNat_of_lt (w := 32) (by have := l.isLt; omega)
  have hw : w.toInt ≤ (l0.val : ℤ) := by
    have := h2 l0 (Finset.mem_univ _)
    rwa [if_pos h0.le, e] at this
  have hl0 := l0.isLt
  rcases h1 with rfl | ⟨l, -, hl⟩
  · have : (2147483647#32 : BitVec 32).toInt = 2147483647 := by decide
    omega
  · by_cases hM : M ≤ p l
    · rw [if_pos hM] at hl
      have hlv : M = p l := le_antisymm hM (hb l)
      refine ⟨l.val, ⟨l.isLt, fun n hn => ?_, fun n hn => ?_⟩, by rw [← hp]; exact hlv, hl⟩
      · have := hb ⟨n, hn⟩; rw [hp] at this; rw [← hp l, ← hlv]; exact this
      · have hn' : n < 1024 := hn.trans l.isLt
        have h3 := hb ⟨n, hn'⟩
        rw [hp] at h3
        rw [← hp l, ← hlv]
        refine lt_of_le_of_ne h3 fun q => ?_
        have h4 := h2 ⟨n, hn'⟩ (Finset.mem_univ _)
        rw [if_pos (by rw [hp]; exact q.symm.le), hl, e, e] at h4
        have : l.val ≤ n := by exact_mod_cast h4
        omega
    · rw [if_neg hM] at hl
      have : (1024#32 : BitVec 32).toInt = 1024 := by decide
      rw [hl] at hw
      omega

/-! ## Lengths and scores -/

/-- The sum of a row's squares. -/
def squares (v : Fin 256 → EReal) : EReal := ∑ k, v k * v k

/-- A row times the reciprocal of its length. -/
def unitRow (v : Fin 256 → EReal) (k : Fin 256) : EReal := v k * Ideal.rsqrt (squares v)

/-- Row `n` of the groups. -/
def groupRow (g : (⟨2, ![8192, 256]⟩ : Shape).Idx → EReal) (n : ℕ) (k : Fin 256) : EReal :=
  if h : n < 8192 then g (ix2 ⟨n, h⟩ k) else 0

theorem groupRow_of_lt (g : (⟨2, ![8192, 256]⟩ : Shape).Idx → EReal) (n : ℕ) (h : n < 8192) (k : Fin 256) :
    groupRow g n k = g (ix2 ⟨n, h⟩ k) := dif_pos h

/-- A row's score against a group. -/
def score (u v : Fin 256 → EReal) : EReal := ∑ k, u k * unitRow v k

/-- The least length a row is divided by. -/
def eps : EReal := Ideal.ofBits .f32 0x2B8CBCCC#32

/-- It is a positive real. -/
theorem eps_real : ∃ r : ℝ, 0 < r ∧ eps = r := by
  unfold eps
  simp [Ideal.ofBits, Ideal.ieee, -EReal.coe_mul]

/-- A sum of reals is a real. -/
theorem sum_real {ι : Type*} (S : Finset ι) (f : ι → EReal) (h : ∀ i ∈ S, ∃ r : ℝ, f i = r) : ∃ r : ℝ, ∑ i ∈ S, f i = r := by
  induction S using Finset.cons_induction with
  | empty => exact ⟨0, by simp⟩
  | cons a S ha ih =>
    obtain ⟨p, hp⟩ := h a (Finset.mem_cons_self a S)
    obtain ⟨q, hq⟩ := ih fun i hi => h i (Finset.mem_cons_of_mem hi)
    exact ⟨p + q, by rw [Finset.sum_cons, hp, hq, EReal.coe_add]⟩

theorem mul_self_nonneg' (v : EReal) : 0 ≤ v * v := by
  rcases le_total 0 v with h | h
  · exact EReal.mul_nonneg h h
  · exact EReal.mul_nonneg_iff.2 (.inr ⟨h, h⟩)

theorem squares_nonneg (v : Fin 256 → EReal) : 0 ≤ squares v := Finset.sum_nonneg fun k _ => mul_self_nonneg' (v k)

/-- Where the sum of squares is not infinite the row is real. -/
theorem real_of_squares (v : Fin 256 → EReal) (h : squares v ≠ ⊤) (k : Fin 256) : ∃ r : ℝ, v k = r := by
  have hk : v k * v k ≤ squares v := Finset.single_le_sum (f := fun k => v k * v k) (fun k _ => mul_self_nonneg' (v k)) (Finset.mem_univ k)
  have hk' : v k * v k ≠ ⊤ := fun e => h (top_le_iff.1 (e ▸ hk))
  induction hv : v k using EReal.rec with
  | bot => rw [hv] at hk'; exact absurd rfl hk'
  | top => rw [hv] at hk'; exact absurd rfl hk'
  | coe r => exact ⟨r, rfl⟩

/-- The sum of squares is `+∞`, zero or a positive real. -/
theorem squares_cases (v : Fin 256 → EReal) : squares v = ⊤ ∨ ∃ r : ℝ, 0 ≤ r ∧ squares v = r := by
  have h0 := squares_nonneg v
  induction h : squares v using EReal.rec with
  | bot => rw [h] at h0; exact absurd h0 (by simp)
  | top => exact .inl rfl
  | coe r => rw [h] at h0; exact .inr ⟨r, by exact_mod_cast h0, rfl⟩

theorem sqrt_coe (r : ℝ) (h : 0 ≤ r) : Ideal.sqrt (r : EReal) = (Real.sqrt r : ℝ) := by
  show (if r < 0 then ⊥ else ((Real.sqrt r : ℝ) : EReal)) = _
  rw [if_neg (not_lt.2 h)]

theorem rsqrt_coe (r : ℝ) (h : 0 < r) : Ideal.rsqrt (r : EReal) = ((Real.sqrt r)⁻¹ : ℝ) := by
  show (if r < 0 then ⊥ else if r = 0 then ⊤ else (((Real.sqrt r)⁻¹ : ℝ) : EReal)) = _
  rw [if_neg (not_lt.2 h.le), if_neg h.ne']

theorem div_coe (x : EReal) (r : ℝ) (h : r ≠ 0) : Ideal.div x (r : EReal) = x * ((r⁻¹ : ℝ) : EReal) := by
  unfold Ideal.div
  rw [if_neg (by exact_mod_cast h), EReal.coe_inv]

/-- A group is long enough to be divided by its length, or zero. -/
def LongOrZero (v : Fin 256 → EReal) : Prop := eps ≤ Ideal.sqrt (squares v) ∨ Ideal.sqrt (squares v) = 0

/-- A group long enough or zero, over its length bounded below, is the group times the reciprocal of its length, and that is real. -/
theorem unitRow_of_long (v : Fin 256 → EReal) (h : LongOrZero v) (k : Fin 256) :
    Ideal.div (v k) (max (Ideal.sqrt (squares v)) eps) = unitRow v k ∧ ∃ r : ℝ, unitRow v k = r := by
  obtain ⟨e, he, hee⟩ := eps_real
  unfold unitRow
  rcases squares_cases v with hs | ⟨s, hs0, hs⟩
  · have h1 : Ideal.sqrt ⊤ = ⊤ := rfl
    have h2 : Ideal.rsqrt ⊤ = 0 := rfl
    rw [hs, h1, h2, max_eq_left le_top]
    refine ⟨?_, 0, by simp⟩
    unfold Ideal.div
    rw [if_neg (by simp)]; simp
  · obtain ⟨r, hr⟩ := real_of_squares v (by rw [hs]; exact EReal.coe_ne_top s) k
    rcases h with h | h
    · rw [max_eq_left h]
      rw [hee, hs, sqrt_coe s hs0] at h
      have h3 : 0 < Real.sqrt s := lt_of_lt_of_le he (by exact_mod_cast h)
      have h4 : 0 < s := Real.sqrt_pos.1 h3
      rw [hs, sqrt_coe s hs0, rsqrt_coe s h4, div_coe _ _ h3.ne', hr]
      exact ⟨rfl, r * (Real.sqrt s)⁻¹, by rw [EReal.coe_mul]⟩
    · rw [hs, sqrt_coe s hs0] at h
      have h3 : Real.sqrt s = 0 := by exact_mod_cast h
      have h4 : s = 0 := (Real.sqrt_eq_zero hs0).1 h3
      have hk : v k * v k ≤ squares v := Finset.single_le_sum (f := fun k => v k * v k) (fun k _ => mul_self_nonneg' (v k)) (Finset.mem_univ k)
      rw [hs, hr, h4, ← EReal.coe_mul, EReal.coe_le_coe_iff] at hk
      have h5 : r = 0 := by nlinarith [mul_self_nonneg r]
      rw [hs, sqrt_coe s hs0, h3, hr, h5, hee, max_eq_right (by exact_mod_cast he.le), div_coe _ _ he.ne']
      exact ⟨by simp, 0, by simp⟩

/-- A real row against a group long enough or zero has a real score. -/
theorem score_real (u v : Fin 256 → EReal) (hu : ∀ k, ∃ r : ℝ, u k = r) (hv : ∀ k, ∃ r : ℝ, unitRow v k = r) : ∃ r : ℝ, score u v = r :=
  sum_real _ _ fun k _ => by
    obtain ⟨p, hp⟩ := hu k; obtain ⟨q, hq⟩ := hv k
    exact ⟨p * q, by rw [hp, hq, EReal.coe_mul]⟩

/-- A real row over its length bounded below is the row times one positive real. -/
theorem scaled_row (u : Fin 256 → EReal) (hu : ∀ k, ∃ r : ℝ, u k = r) :
    ∃ c : ℝ, 0 < c ∧ ∀ k, Ideal.div (u k) (max (Ideal.sqrt (squares u)) eps) = u k * (c : EReal) := by
  obtain ⟨e, he, hee⟩ := eps_real
  obtain ⟨s, hs⟩ := sum_real Finset.univ (fun k => u k * u k) fun k _ => by
    obtain ⟨p, hp⟩ := hu k; exact ⟨p * p, by rw [hp, EReal.coe_mul]⟩
  have hs' : squares u = s := hs
  have hs0 : 0 ≤ s := by have := squares_nonneg u; rw [hs'] at this; exact_mod_cast this
  have hm : max (Ideal.sqrt (squares u)) eps = ((max (Real.sqrt s) e : ℝ) : EReal) := by
    rw [hs', sqrt_coe s hs0, hee]; exact (EReal.coe_strictMono.monotone.map_max).symm
  have hp : 0 < max (Real.sqrt s) e := lt_max_of_lt_right he
  exact ⟨(max (Real.sqrt s) e)⁻¹, inv_pos.2 hp, fun k => by rw [hm, div_coe _ _ hp.ne']⟩

/-- So its score against a group long enough or zero, both over their lengths bounded below, is the score times that positive real. -/
theorem scaled_score (u v : Fin 256 → EReal) (c : ℝ) (hu : ∀ k, ∃ r : ℝ, u k = r) (hv : ∀ k, ∃ r : ℝ, unitRow v k = r) :
    ∑ k, u k * (c : EReal) * unitRow v k = score u v * (c : EReal) := by
  choose p hp using hu
  choose q hq using hv
  unfold score
  simp only [hp, hq]
  have h1 : ∀ k, (p k : EReal) * c * q k = ((p k * c * q k : ℝ) : EReal) := fun k => by simp only [EReal.coe_mul]
  have h2 : ∀ k, (p k : EReal) * q k = ((p k * q k : ℝ) : EReal) := fun k => by simp only [EReal.coe_mul]
  simp only [h1, h2]
  have hc : ∀ f : Fin 256 → ℝ, ∑ k, (f k : EReal) = ((∑ k, f k : ℝ) : EReal) := fun f => (map_sum (⟨⟨Real.toEReal, EReal.coe_zero⟩, EReal.coe_add⟩ : ℝ →+ EReal) f Finset.univ).symm
  rw [hc, hc, ← EReal.coe_mul, Finset.sum_mul]
  exact congrArg _ (Finset.sum_congr rfl fun k _ => by ring)

end Cert.Shared

end
-- ==== Proof.IdealAssignValue.lean ====
/- What the first region computes: each row's group is the first one of the highest score. -/
module

public import proofs.«01_k».proof.Proof.IdealRun
public import proofs.«01_k».proof.Proof.FirstMax
public import Idealize.ShloMosaic.Lib.Pointwise
public import Idealize.ShloMosaic.Lib.Pipeline.ValueKit

@[expose] public section

set_option maxRecDepth 16384

noncomputable section

namespace Cert.KernelIdeal.Body

open Idealize.ShloMosaic Idealize.ShloMosaic.TcCoe
open Cert.KernelIdeal.Gen Cert.Shared

/-! ## One tile of groups -/

/-- A tile's scores. -/
theorem scores_at (x : Vec Ideal S512x256 .f32) (t : Vec Ideal S1024x256 .f32) (r : Fin 512) (l : Fin 1024) :
    k0_pay3 x t (ix2 r l) = score (fun k => x (ix2 r k)) (fun k => t (ix2 l k)) := by
  pointwise [k0_pay3]
  rfl

theorem negInf : Ideal.ofBits FTy.f32 4286578688#32 = ⊥ := by simp [Ideal.ofBits, Ideal.ieee]

/-- A tile's highest score. -/
theorem highest_at (x : Vec Ideal S512x256 .f32) (t : Vec Ideal S1024x256 .f32) (r : Fin 512) (l : Fin 1) :
    k0_pay4 x t (ix2 r l) = Finset.fold max ⊥ (fun l => k0_pay3 x t (ix2 r l)) Finset.univ := by
  pointwise [k0_pay4]
  rw [negInf]

/-- The best score after a tile. -/
theorem best_at (x : Vec Ideal S512x256 .f32) (t : Vec Ideal S1024x256 .f32) (b : FVec Ideal S512x1 .f32) (r : Fin 512) (l : Fin 1) :
    k0_pay6 x b t (ix2 r l) = if b (ix2 r l) < k0_pay4 x t (ix2 r l) then k0_pay4 x t (ix2 r l) else b (ix2 r l) := by
  pointwise [k0_pay6, k0_pay5]

/-- The best group after a tile. -/
theorem bestId_at (x : Vec Ideal S512x256 .f32) (t : Vec Ideal S1024x256 .f32) (b : FVec Ideal S512x1 .f32) (d : IVec S512x1 32)
    (r : Fin 512) (k : Fin k0_t1_loop.trips) :
    k0_pay7 x k b d t (ix2 r 0) = if b (ix2 r 0) < k0_pay4 x t (ix2 r 0) then
      IntOp.addi (Finset.fold IntOp.minsi 2147483647#32
        (fun l => if k0_pay4 x t (ix2 r 0) ≤ k0_pay3 x t (ix2 r l) then BitVec.ofNat 32 l.val else 1024#32) Finset.univ)
        (Scalar.muli (Scf.iv 0#32 1#32 k.val) 1024#32) else d (ix2 r 0) := by
  pointwise [k0_pay7, k0_pay5]

/-- The loop starts from `-∞`. -/
theorem start_at (r : Fin 512) (l : Fin 1) : k0_pay1 (F := Ideal) (ix2 r l) = ⊥ := by
  pointwise [k0_pay1]
  exact negInf

/-- The tile read at trip `k` is groups `1024 k` to `1024 k + 1023`. -/
theorem tile_at (g : Vec Ideal S8192x256 .f32) (k : Fin k0_t1_loop.trips) (l : Fin 1024) (j : Fin 256)
    (h : 1024 * k.val + l.val < 8192) : groupTile g k (ix2 l j) = g (ix2 ⟨1024 * k.val + l.val, h⟩ j) := by
  unfold groupTile
  rw [View.ld_apply]
  refine congrArg g (funext fun a => Fin.ext ?_)
  have e := k0_off1_eq k
  rw [Rect.idx_unit_val]
  match a with
  | ⟨0, _⟩ => exact congrArg (· + l.val) (congrFun e 0)
  | ⟨1, _⟩ => exact (congrArg (· + j.val) (congrFun e 1)).trans (Nat.zero_add _)

/-- The index of a tile's `a`-th group. -/
theorem index_word (k a : ℕ) (hk : k < 8) (ha : a < 1024) :
    IntOp.addi (BitVec.ofNat 32 a) (Scalar.muli (Scf.iv 0#32 1#32 k) 1024#32) = BitVec.ofNat 32 (1024 * k + a) := by
  apply BitVec.eq_of_toNat_eq
  simp only [IntOp.addi, Scalar.muli, IntOp.muli, Scf.iv, BitVec.toNat_add, BitVec.toNat_mul, BitVec.toNat_ofNat]
  omega

/-! ## All the tiles -/

theorem trips_eq : k0_t1_loop.trips = 8 := by decide

/-- Before tile `n` the loop holds the first of the highest scores of the groups seen, and which group it is. -/
theorem best_inv (x : Vec Ideal S512x256 .f32) (g : Vec Ideal S8192x256 .f32) (r : Fin 512) (f : ℕ → EReal)
    (hf : ∀ n < 8192, f n = score (fun k => x (ix2 r k)) (groupRow g n)) (hr : ∀ n < 8192, ∃ p : ℝ, f n = p) (n : ℕ) (hn : n ≤ 8) :
    (n = 0 ∧ (assignBest x g n).1 (ix2 r 0) = ⊥)
      ∨ ∃ a, IsFirstMax f (1024 * n) a ∧ (assignBest x g n).1 (ix2 r 0) = f a ∧ (assignBest x g n).2 (ix2 r 0) = BitVec.ofNat 32 a := by
  induction n with
  | zero => exact .inl ⟨rfl, start_at r 0⟩
  | succ n ih =>
    right
    have h : n < k0_t1_loop.trips := by rw [trips_eq]; omega
    rw [show assignBest x g (n + 1) = assignStep x g ⟨n, h⟩ (assignBest x g n) from dif_pos h]
    have ih := ih (by omega)
    generalize assignBest x g n = acc at ih ⊢
    unfold assignStep
    dsimp only
    rw [best_at, bestId_at]
    have hp : ∀ l : Fin 1024, k0_pay3 x (groupTile g ⟨n, h⟩) (ix2 r l) = f (1024 * n + l.val) := fun l => by
      have hl : 1024 * n + l.val < 8192 := by have := l.isLt; omega
      rw [scores_at, hf _ hl]
      refine congrArg (score _) (funext fun k => ?_)
      rw [groupRow_of_lt g _ hl, tile_at g ⟨n, h⟩ l k hl]
    obtain ⟨a, ha, hm, hw⟩ := first_of_folds (fun n' => f (1024 * n + n')) (fun l => k0_pay3 x (groupTile g ⟨n, h⟩) (ix2 r l)) hp
    rw [← highest_at x (groupTile g ⟨n, h⟩) r 0] at hm hw
    rw [hw, hm, index_word n a (by omega) ha.1]
    rw [show 1024 * (n + 1) = 1024 * n + 1024 by ring]
    have hal := ha.1
    rcases ih with ⟨rfl, hb⟩ | ⟨b, hb, hbv, hbw⟩
    · obtain ⟨p, hp'⟩ := hr a (by omega)
      have hlt : acc.1 (ix2 r 0) < f (1024 * 0 + a) := by
        rw [hb, show 1024 * 0 + a = a by omega, hp']; exact EReal.bot_lt_coe p
      rw [if_pos hlt, if_pos hlt]
      refine ⟨1024 * 0 + a, ?_, rfl, rfl⟩
      have e : (fun n' => f (1024 * 0 + n')) = f := funext fun n' => congrArg f (by omega)
      rw [e] at ha
      rw [show 1024 * 0 + a = a by omega, show 1024 * 0 + 1024 = 1024 by omega]
      exact ha
    · rw [hbv]
      by_cases hlt : f b < f (1024 * n + a)
      · rw [if_pos hlt, if_pos hlt]
        exact ⟨_, hb.append_gt ha hlt, rfl, rfl⟩
      · rw [if_neg hlt, if_neg hlt]
        exact ⟨b, hb.append_le ha (not_lt.1 hlt), rfl, hbw⟩

/-- A row's group in a block. -/
theorem assigned_at (x : Vec Ideal S512x256 .f32) (g : Vec Ideal S8192x256 .f32) (r : Fin 512)
    (hr : ∀ n < 8192, ∃ p : ℝ, score (fun k => x (ix2 r k)) (groupRow g n) = p) :
    ∃ a, IsFirstMax (fun n => score (fun k => x (ix2 r k)) (groupRow g n)) 8192 a ∧ assigned x g (ix2 r 0) = BitVec.ofNat 32 a := by
  rcases best_inv x g r _ (fun _ _ => rfl) hr 8 le_rfl with ⟨h, -⟩ | ⟨a, ha, -, hw⟩
  · cases h
  · exact ⟨a, ha, by unfold assigned; rw [trips_eq]; exact hw⟩

end Cert.KernelIdeal.Body

end
-- ==== Proof.IdealAssignArray.lean ====
/- The array of groups that the first region leaves. -/
module

public import proofs.«01_k».proof.Proof.IdealAssignValue

@[expose] public section

set_option maxRecDepth 16384

noncomputable section

namespace Cert.KernelIdeal.Body

open Idealize.ShloMosaic Idealize.ShloMosaic.TcCoe
open Cert.KernelIdeal.Gen Cert.Shared

theorem point0 (t : Fin cfg0.N) : (grid0.coords t 0).val = t.val := by
  have e : (grid0.coords t 0).val = t.val / 1 % 128 := Pipeline.Grid.coords_val (G := grid0) t 0 (by decide) rfl
  have h : t.val < 128 := N_0 ▸ t.isLt
  rw [e, Nat.div_one, Nat.mod_eq_of_lt h]

theorem idx0 : ∀ t : Fin cfg0.N, win0_0.index t = ![(grid0.coords t 0).val, 0] ∧ win0_1.index t = ![0, 0]
    ∧ win0_2.index t = ![(grid0.coords t 0).val, 0] := by decide +kernel

variable (W : (c : Dev nD) → Valuation τ sig (Elt Ideal))

theorem blk0_0 (c : Dev nD) (t : Fin cfg0.N) (r : Fin 512) (j : Fin 256) (h : 512 * t.val + r.val < 65536) :
    blk0 W c 0 t (ix2 r j) = W c (Proc.devRef .tc main_arg0) (ix2 ⟨512 * t.val + r.val, h⟩ j) := by
  have hc := point0 t
  blk_ext [blk0, idx0 t, hc]

theorem blk0_1 (c : Dev nD) (t : Fin cfg0.N) : blk0 W c 1 t = W c (Proc.devRef .tc main_arg1) := by
  funext y
  blk_ext [blk0, idx0 t]

/-- Row `R`'s entry is its entry in block `R / 512`. -/
def groupsOf (c : Dev nD) : S65536x1.Idx → BitVec 32 := fun i =>
  out0 W c ⟨(i 0).val / 512, by
    have h : (i 0).val < 65536 := (i 0).isLt
    show (i 0).val / 512 < grid0.N
    rw [N_0]; omega⟩ (ix2 ⟨(i 0).val % 512, Nat.mod_lt _ (by decide)⟩ 0)

theorem groupsOf_block (c : Dev nD) (t : Fin cfg0.N) (y : S512x1.Idx) (i : S65536x1.Idx) (h : (i 0 : ℕ) = t.val * 512 + (y 0 : ℕ)) :
    out0 W c t y = groupsOf W c i := by
  have hy : (y 0 : ℕ) < 512 := (y 0).isLt
  unfold groupsOf
  congr 1
  · exact Fin.ext (by show t.val = (i 0 : ℕ) / 512; omega)
  · funext a
    match a with
    | ⟨0, _⟩ => exact Fin.ext (by show (y 0 : ℕ) = (i 0 : ℕ) % 512; omega)
    | ⟨1, _⟩ => exact Subsingleton.elim (α := Fin 1) _ _

/-- The array of groups after the region. -/
theorem groups_arr (c : Dev nD) : (dat0 W c).arrAt 2 cfg0.N = groupsOf W c := by
  refine (dat0 W c).arrAt_eq_of_covers 2 _ (by decide +kernel) fun t hf y => ?_
  blk_simp
  rw [dat0_after_2]
  refine groupsOf_block W c t _ _ ?_
  have hc := point0 t
  blk_simp [idx0 t, hc]

/-- Row `R`'s group is the first one of its highest score. -/
theorem groupsOf_at (c : Dev nD) (x : S65536x256.Idx → EReal) (hx : W c (Proc.devRef .tc main_arg0) = x)
    (g : S8192x256.Idx → EReal) (hg : W c (Proc.devRef .tc main_arg1) = g) (R : Fin 65536)
    (hr : ∀ n < 8192, ∃ p : ℝ, score (fun k => x (ix2 R k)) (groupRow g n) = p) :
    ∃ a, IsFirstMax (fun n => score (fun k => x (ix2 R k)) (groupRow g n)) 8192 a ∧ groupsOf W c (ix2 R 0) = BitVec.ofNat 32 a := by
  have hR := R.isLt
  have ht : R.val / 512 < cfg0.N := by
    show _ < grid0.N
    rw [N_0]; omega
  have hm : R.val % 512 < 512 := Nat.mod_lt _ (by decide)
  have e : ∀ k, blk0 W c 0 ⟨R.val / 512, ht⟩ (ix2 ⟨R.val % 512, hm⟩ k) = x (ix2 R k) := fun k => by
    rw [blk0_0 W c _ _ k (by show 512 * (R.val / 512) + R.val % 512 < 65536; omega), hx]
    exact congrArg (fun q => x (ix2 q k)) (Fin.ext (Nat.div_add_mod _ _))
  have h := assigned_at (blk0 W c 0 ⟨R.val / 512, ht⟩) g ⟨R.val % 512, hm⟩
  simp only [e] at h
  have h := h hr
  rw [← hg, ← blk0_1 W c ⟨R.val / 512, ht⟩] at h
  rw [← hg, ← blk0_1 W c ⟨R.val / 512, ht⟩]
  exact h

end Cert.KernelIdeal.Body

end
-- ==== Proof.IdealUpdateValue.lean ====
/- What the second region computes: each group moved by the sum of its rows over their number. -/
module

public import proofs.«01_k».proof.Proof.IdealRun
public import Idealize.ShloMosaic.Lib.Pointwise
public import Idealize.ShloMosaic.Lib.WordCmp
public import Idealize.ShloMosaic.Lib.Pipeline.ValueKit

@[expose] public section

set_option maxRecDepth 16384

noncomputable section

namespace Cert.KernelIdeal.Body

open Idealize.ShloMosaic Idealize.ShloMosaic.TcCoe
open Cert.KernelIdeal.Gen

/-! ## One tile of rows -/

/-- Whether the word `w` names group `512 i + r`. -/
theorem names (i r : ℕ) (hi : i < 16) (hr : r < 512) (w : BitVec 32) (p q : EReal) :
    Scalar.select (IntOp.cmpi .eq w (IntOp.addi (BitVec.ofNat 32 r) (Scalar.muli (BitVec.ofNat 32 i) 512#32))) p q
      = if w = BitVec.ofNat 32 (512 * i + r) then p else q := by
  have e : IntOp.addi (BitVec.ofNat 32 r) (Scalar.muli (BitVec.ofNat 32 i) 512#32) = BitVec.ofNat 32 (512 * i + r) := by
    apply BitVec.eq_of_toNat_eq
    simp only [IntOp.addi, Scalar.muli, IntOp.muli, BitVec.toNat_add, BitVec.toNat_mul, BitVec.toNat_ofNat]
    omega
  rw [e, WordCmp.cmpi_eq_eq, WordCmp.select_decide]

/-- What a tile adds to a group's row sum. -/
theorem sums_at (i : grid1.Coords) (ids : IVec S2048x1 32) (x prev) (r : Fin 512) (j : Fin 256) :
    k1_pay5 (F := Ideal) i ids x prev (ix2 r j)
      = prev (ix2 r j) + ∑ q : Fin 2048, if ids (ix2 q 0) = BitVec.ofNat 32 (512 * (i 0).val + r.val) then x (ix2 q j) else 0 := by
  have hi : (i 0).val < 16 := (i 0).isLt
  pointwise [k1_pay5, k1_pay4]
  simp only [names _ _ hi r.isLt]

/-- What a tile adds to a group's count. -/
theorem counts_at (i : grid1.Coords) (ids : IVec S2048x1 32) (prev) (r : Fin 512) (j : Fin 1) :
    k1_pay6 (F := Ideal) i ids prev (ix2 r j)
      = prev (ix2 r j) + ∑ q : Fin 2048, if ids (ix2 q 0) = BitVec.ofNat 32 (512 * (i 0).val + r.val) then 1 else 0 := by
  have hi : (i 0).val < 16 := (i 0).isLt
  pointwise [k1_pay6, k1_pay4]
  simp only [names _ _ hi r.isLt]

theorem noSums_at (r : Fin 512) (j : Fin 256) : k1_pay2 (F := Ideal) (ix2 r j) = 0 := by pointwise [k1_pay2]
theorem noCounts_at (r : Fin 512) (j : Fin 1) : k1_pay3 (F := Ideal) (ix2 r j) = 0 := by pointwise [k1_pay3]

/-- A group moved. -/
theorem moved_at (cnt : FVec Ideal S512x1 .f32) (g s : FVec Ideal S512x256 .f32) (r : Fin 512) (j : Fin 256) :
    k1_pay1 (F := Ideal) cnt g s (ix2 r j) = Ideal.ofBits .f32 0x3F7D70A4#32 * g (ix2 r j)
      + s (ix2 r j) * (if 0 < cnt (ix2 r 0) then Ideal.div (Ideal.ofBits .f32 0x3C23D70A#32) (max (cnt (ix2 r 0)) 1) else 0) := by
  pointwise [k1_pay1]

/-! ## The blocks -/

theorem point1 (t : Fin cfg1.N) : (grid1.coords t 0).val = t.val / 32 ∧ (grid1.coords t 1).val = t.val % 32 := by
  have h : t.val < 512 := N_1 ▸ t.isLt
  have e0 : (grid1.coords t 0).val = t.val / 32 % 16 := Pipeline.Grid.coords_val (G := grid1) t 0 (by decide) rfl
  have e1 : (grid1.coords t 1).val = t.val / 1 % 32 := Pipeline.Grid.coords_val (G := grid1) t 1 (by decide) rfl
  rw [e0, e1]
  omega

theorem idx1 : ∀ t : Fin cfg1.N, win1_0.index t = ![(grid1.coords t 1).val, 0] ∧ win1_1.index t = ![(grid1.coords t 1).val, 0]
    ∧ win1_2.index t = ![(grid1.coords t 0).val, 0] ∧ win1_3.index t = ![(grid1.coords t 0).val, 0] := by decide +kernel

variable (W : (c : Dev nD) → Valuation τ sig (Elt Ideal))

theorem blk1_0 (c : Dev nD) (t : Fin cfg1.N) (r : Fin 2048) (h : 2048 * (t.val % 32) + r.val < 65536) :
    blk1 W c 0 t (ix2 r 0) = W c (Proc.devRef .tc main_v0) (ix2 ⟨2048 * (t.val % 32) + r.val, h⟩ 0) := by
  have hc := point1 t
  blk_ext [blk1, idx1 t, hc]

theorem blk1_1 (c : Dev nD) (t : Fin cfg1.N) (r : Fin 2048) (j : Fin 256) (h : 2048 * (t.val % 32) + r.val < 65536) :
    blk1 W c 1 t (ix2 r j) = W c (Proc.devRef .tc main_arg0) (ix2 ⟨2048 * (t.val % 32) + r.val, h⟩ j) := by
  have hc := point1 t
  blk_ext [blk1, idx1 t, hc]

theorem blk1_2 (c : Dev nD) (t : Fin cfg1.N) (r : Fin 512) (j : Fin 256) (h : 512 * (t.val / 32) + r.val < 8192) :
    blk1 W c 2 t (ix2 r j) = W c (Proc.devRef .tc main_arg1) (ix2 ⟨512 * (t.val / 32) + r.val, h⟩ j) := by
  have hc := point1 t
  blk_ext [blk1, idx1 t, hc]

end Cert.KernelIdeal.Body

end
-- ==== Proof.IdealUpdateArray.lean ====
/- The array that the second region leaves. -/
module

public import proofs.«01_k».proof.Proof.IdealUpdateValue

@[expose] public section

set_option maxRecDepth 16384

noncomputable section

namespace Cert.KernelIdeal.Body

open Idealize.ShloMosaic Idealize.ShloMosaic.TcCoe
open Cert.KernelIdeal.Gen

open Finset

variable (W : (c : Dev nD) → Valuation τ sig (Elt Ideal))

/-- Row `R`'s group word. -/
def idWord (c : Dev nD) (R : ℕ) : BitVec 32 :=
  if h : R < 65536 then (W c (Proc.devRef .tc main_v0) : S65536x1.Idx → BitVec 32) (ix2 ⟨R, h⟩ 0) else 0#32

/-- Row `R` of the rows. -/
def rowVal (c : Dev nD) (R : ℕ) (j : Fin 256) : EReal :=
  if h : R < 65536 then (W c (Proc.devRef .tc main_arg0) : S65536x256.Idx → EReal) (ix2 ⟨R, h⟩ j) else 0

/-- The sum of the rows whose word is `n`'s, -/
def rowSum (c : Dev nD) (n : ℕ) (j : Fin 256) : EReal :=
  ∑ R : Fin 65536, if idWord W c R.val = BitVec.ofNat 32 n then rowVal W c R.val j else 0
/-- and their number. -/
def rowCount (c : Dev nD) (n : ℕ) : EReal :=
  ∑ R : Fin 65536, if idWord W c R.val = BitVec.ofNat 32 n then 1 else 0

theorem blk1_0' (c : Dev nD) (t : Fin cfg1.N) (q : Fin 2048) : blk1 W c 0 t (ix2 q 0) = idWord W c (2048 * (t.val % 32) + q.val) := by
  have h : 2048 * (t.val % 32) + q.val < 65536 := by have := q.isLt; omega
  unfold idWord
  rw [dif_pos h, blk1_0 W c t q h]

theorem blk1_1' (c : Dev nD) (t : Fin cfg1.N) (q : Fin 2048) (j : Fin 256) :
    blk1 W c 1 t (ix2 q j) = rowVal W c (2048 * (t.val % 32) + q.val) j := by
  have h : 2048 * (t.val % 32) + q.val < 65536 := by have := q.isLt; omega
  unfold rowVal
  rw [dif_pos h, blk1_1 W c t q j h]

/-- A sum over the rows, tile by tile. -/
theorem sum_tiles (F : ℕ → EReal) : ∑ k ∈ range 32, ∑ q : Fin 2048, F (2048 * k + q.val) = ∑ R : Fin 65536, F R.val := by
  rw [← Fin.sum_univ_eq_sum_range (fun k => ∑ q : Fin 2048, F (2048 * k + q.val)) 32]
  simp only [Nat.mul_comm 2048]
  exact Fin.sum_univ_univ_mul_add 32 2048 F

/-- After a last tile the totals are the sums over all the rows. -/
theorem totals_sums (c : Dev nD) (t : Fin cfg1.N) (h : t.val % 32 = 31) (r : Fin 512) (j : Fin 256) :
    (totals W c t.val t.isLt).1 (ix2 r j) = rowSum W c (512 * (t.val / 32) + r.val) j := by
  have e := Pipeline.eq_sum_of_reset_step_apply_divmod (fun n h (p : Fin 512 × Fin 256) => ((totals W c n h).1 (ix2 p.1 p.2) : EReal)) 32 (fun _ => 0)
    (fun a k p => ∑ q : Fin 2048, if idWord W c (2048 * k + q.val) = BitVec.ofNat 32 (512 * a + p.1.val)
      then rowVal W c (2048 * k + q.val) p.2 else 0)
    (fun t h p => by
      rw [totals_first W c t h]
      dsimp only
      rw [sums_at, noSums_at, (point1 t).1]
      simp only [blk1_0' W c t, blk1_1' W c t])
    (fun t h p => by
      rw [totals_next W c t h]
      dsimp only
      rw [sums_at, (point1 t).1]
      simp only [blk1_0' W c t, blk1_1' W c t])
    t (r, j)
  rw [e, h, zero_add]
  exact sum_tiles fun R => if idWord W c R = BitVec.ofNat 32 (512 * (t.val / 32) + r.val) then rowVal W c R j else 0

theorem totals_counts (c : Dev nD) (t : Fin cfg1.N) (h : t.val % 32 = 31) (r : Fin 512) :
    (totals W c t.val t.isLt).2 (ix2 r 0) = rowCount W c (512 * (t.val / 32) + r.val) := by
  have e := Pipeline.eq_sum_of_reset_step_apply_divmod (fun n h (p : Fin 512) => ((totals W c n h).2 (ix2 p 0) : EReal)) 32 (fun _ => 0)
    (fun a k p => ∑ q : Fin 2048, if idWord W c (2048 * k + q.val) = BitVec.ofNat 32 (512 * a + p.val) then 1 else 0)
    (fun t h p => by
      rw [totals_first W c t h]
      dsimp only
      rw [counts_at, noCounts_at, (point1 t).1]
      simp only [blk1_0' W c t])
    (fun t h p => by
      rw [totals_next W c t h]
      dsimp only
      rw [counts_at, (point1 t).1]
      simp only [blk1_0' W c t])
    t r
  rw [e, h, zero_add]
  exact sum_tiles fun R => if idWord W c R = BitVec.ofNat 32 (512 * (t.val / 32) + r.val) then 1 else 0

/-- The groups moved. -/
def movedOf (c : Dev nD) : S8192x256.Idx → EReal := fun i =>
  Ideal.ofBits .f32 0x3F7D70A4#32 * (W c (Proc.devRef .tc main_arg1) : S8192x256.Idx → EReal) i
    + rowSum W c (i 0).val (i 1)
      * (if 0 < rowCount W c (i 0).val then Ideal.div (Ideal.ofBits .f32 0x3C23D70A#32) (max (rowCount W c (i 0).val) 1) else 0)

theorem out1_at (c : Dev nD) (t : Fin cfg1.N) (h : t.val % 32 = 31) (r : Fin 512) (j : Fin 256) (hn : 512 * (t.val / 32) + r.val < 8192) :
    out1 W c t (ix2 r j) = movedOf W c (ix2 ⟨512 * (t.val / 32) + r.val, hn⟩ j) := by
  unfold out1
  rw [moved_at, totals_sums W c t h, totals_counts W c t h, blk1_2 W c t r j hn]
  rfl

theorem moved_arr (c : Dev nD) : (dat1 W c).arrAt 3 cfg1.N = movedOf W c := by
  refine (dat1 W c).arrAt_eq_of_covers 3 _ (by decide +kernel) fun t hf y => ?_
  have hm := (flush1_3 t).1 hf
  have ht : t.val < 512 := N_1 ▸ t.isLt
  blk_simp
  rw [dat1_after_3]
  have h0 : (y 0 : ℕ) < 512 := (y 0).isLt
  have e : ∀ (y : S512x256.Idx) (i : S8192x256.Idx), (i 0 : ℕ) = t.val / 32 * 512 + (y 0 : ℕ) → (i 1 : ℕ) = (y 1 : ℕ) →
      out1 W c t y = movedOf W c i := fun y i h0 h1 => by
    have hy : (y 0 : ℕ) < 512 := (y 0).isLt
    rw [eq_ix2 y]
    refine (out1_at W c t hm (y 0) (y 1) (by omega)).trans (congrArg _ ?_)
    funext a
    match a with
    | ⟨0, _⟩ => exact Fin.ext (by show 512 * (t.val / 32) + (y 0 : ℕ) = (i 0 : ℕ); omega)
    | ⟨1, _⟩ => exact Fin.ext h1.symm
  have hc := point1 t
  refine e _ _ ?_ ?_
  · blk_simp [idx1 t, hc]
  · blk_simp [idx1 t, hc]

end Cert.KernelIdeal.Body

end
-- ==== Proof.PlainValue.lean ====
/- What the plain program computes, read at an index over the extended reals. -/
module

public import proofs.«01_k».proof.Proof.PlainRun
public import proofs.«01_k».proof.Proof.FirstMax
public import Idealize.ShloMosaic.Lib.Pointwise
public import Idealize.ShloMosaic.PureOps.Ideal.Laws
public import Idealize.ShloMosaic.Lib.WordCmp

@[expose] public section

set_option maxRecDepth 16384

noncomputable section

namespace Cert.ReferenceIdeal.Body

open Idealize.ShloMosaic Idealize.ShloMosaic.TcCoe
open Cert.ReferenceIdeal.Gen Cert.Shared

/-! ## The scores -/

/-- A row's score against a group, both over their lengths bounded below. -/
theorem logits_at (x : FVec Ideal S65536x256 .f32) (g : FVec Ideal S8192x256 .f32) (R : Fin 65536) (n : Fin 8192) :
    logits x g (ix2 R n) = ∑ k, Ideal.div (x (ix2 R k)) (max (Ideal.sqrt (squares fun k => x (ix2 R k))) eps)
      * Ideal.div (g (ix2 n k)) (max (Ideal.sqrt (squares fun k => g (ix2 n k))) eps) := by
  pointwise [logits, unitX, unitG, normX, normG]
  rfl

/-! ## The group of the highest score -/

/-- `q` does not come before `p`: its value is less, or the values are equal and its index is not less. -/
def NotBefore (p q : EReal × BitVec 32) : Prop := q.1 < p.1 ∨ (q.1 = p.1 ∧ p.2.toInt ≤ q.2.toInt)

theorem NotBefore.refl (p : EReal × BitVec 32) : NotBefore p p := .inr ⟨rfl, le_rfl⟩
theorem NotBefore.trans {p q r : EReal × BitVec 32} (h : NotBefore p q) (h' : NotBefore q r) : NotBefore p r := by
  rcases h with h | ⟨h, k⟩ <;> rcases h' with h' | ⟨h', k'⟩
  · exact .inl (h'.trans h)
  · exact .inl (h'.trans_lt h)
  · exact .inl (h'.trans_eq h)
  · exact .inr ⟨h'.trans h, k.trans k'⟩

/-- The reduction's body returns one of the two pairs, and the one that comes first. -/
theorem reducer_spec (a b : EReal × BitVec 32) :
    (reducer_argmax_f32_i32 (F := Ideal) a b = a ∨ reducer_argmax_f32_i32 (F := Ideal) a b = b)
      ∧ NotBefore (reducer_argmax_f32_i32 (F := Ideal) a b) a ∧ NotBefore (reducer_argmax_f32_i32 (F := Ideal) a b) b := by
  obtain ⟨av, ai⟩ := a
  obtain ⟨bv, bi⟩ := b
  have hu : (FloatOps.cmpf (F := Ideal) (φ := .f32) .une av av) = 0#1 := by simp [Ideal.cmpf_def, Ideal.cmp]
  have hg : (FloatOps.cmpf (F := Ideal) (φ := .f32) .ogt av bv) = BitVec.ofBool (decide (bv < av)) := by simp [Ideal.cmpf_def, Ideal.cmp]
  have he : (FloatOps.cmpf (F := Ideal) (φ := .f32) .oeq av bv) = BitVec.ofBool (decide (av = bv)) := by simp [Ideal.cmpf_def, Ideal.cmp]
  have hl : IntOp.cmpi .slt ai bi = BitVec.ofBool (decide (ai.toInt < bi.toInt)) := WordCmp.cmpi_slt_eq ai bi
  unfold reducer_argmax_f32_i32
  dsimp only
  rw [hu, hg, he, hl]
  have hz : (0#1 : BitVec 1) = BitVec.ofBool false := rfl
  rw [hz]
  simp only [WordCmp.andi_ofBool, WordCmp.ori_ofBool]
  have hs : ∀ {α : Type} (p : Bool) (u v : α), Scalar.select (BitVec.ofBool p) u v = if p = true then u else v := by
    intro α p u v; cases p <;> rfl
  simp only [hs, Bool.or_false, Bool.or_eq_true, Bool.and_eq_true, decide_eq_true_eq]
  rcases lt_trichotomy av bv with h | h | h
  · have h1 : ¬bv < av := h.not_gt
    have h2 : ¬av = bv := h.ne
    rw [if_neg h1, if_neg (by rintro (q | ⟨q, -⟩); exacts [h1 q, h2 q])]
    exact ⟨.inr rfl, .inl h, .refl _⟩
  · subst h
    rw [if_neg (lt_irrefl _)]
    by_cases hi : ai.toInt < bi.toInt
    · rw [if_pos (.inr ⟨rfl, hi⟩)]
      exact ⟨.inl rfl, .refl _, .inr ⟨rfl, hi.le⟩⟩
    · rw [if_neg (by rintro (q | ⟨-, q⟩); exacts [lt_irrefl _ q, hi q])]
      exact ⟨.inr rfl, .inr ⟨rfl, not_lt.1 hi⟩, .refl _⟩
  · rw [if_pos h, if_pos (.inl h)]
    exact ⟨.inl rfl, .refl _, .inl h⟩

/-- A fold of the body over a list returns the start or one of the list, and the one that comes first. -/
theorem fold_spec (L : List (EReal × BitVec 32)) (p : EReal × BitVec 32) :
    (L.foldl (reducer_argmax_f32_i32 (F := Ideal)) p = p ∨ L.foldl (reducer_argmax_f32_i32 (F := Ideal)) p ∈ L)
      ∧ NotBefore (L.foldl (reducer_argmax_f32_i32 (F := Ideal)) p) p
      ∧ ∀ q ∈ L, NotBefore (L.foldl (reducer_argmax_f32_i32 (F := Ideal)) p) q := by
  induction L generalizing p with
  | nil => exact ⟨.inl rfl, .refl _, fun q hq => absurd hq List.not_mem_nil⟩
  | cons a L ih =>
    rw [List.foldl_cons]
    obtain ⟨h1, h2, h3⟩ := ih (reducer_argmax_f32_i32 (F := Ideal) p a)
    obtain ⟨k1, k2, k3⟩ := reducer_spec p a
    refine ⟨?_, h2.trans k2, fun q hq => ?_⟩
    · rcases h1 with h1 | h1
      · rcases k1 with k1 | k1
        · exact .inl (h1.trans k1)
        · rw [h1, k1]; exact .inr List.mem_cons_self
      · exact .inr (List.mem_cons_of_mem _ h1)
    · rcases List.mem_cons.1 hq with rfl | hq
      · exact h2.trans k3
      · exact h3 q hq

/-- A row's pairs are its scores with the groups' numbers. -/
theorem mem_row (x : FVec Ideal S65536x256 .f32) (g : FVec Ideal S8192x256 .f32) (R : Fin 65536) (p : EReal × BitVec 32) :
    p ∈ Host.argReduceFiber (logits x g) (iotaInDim S65536x8192 32 1) reducesTo_S65536x8192_S65536_d1 (ix1 R)
      ↔ ∃ n : Fin 8192, p = (logits x g (ix2 R n), BitVec.ofNat 32 n.val) := by
  have hd : ∀ i : S65536x8192.Idx, reducesTo_S65536x8192_S65536_d1.drop i = ix1 R ↔ i 0 = R := fun i => by
    have h0 : (reducesTo_S65536x8192_S65536_d1.drop i (0 : Fin 1) : ℕ) = i 0 :=
      Shape.ReducesTo.drop_apply_val_of_eq reducesTo_S65536x8192_S65536_d1 i 0 0
    constructor
    · intro h
      rw [h] at h0
      exact Fin.ext h0.symm
    · intro h
      funext a
      match a with
      | ⟨0, _⟩ => exact Fin.ext (h0.trans (congrArg Fin.val h))
  unfold Host.argReduceFiber
  simp only [List.mem_map, List.mem_filter, List.mem_finRange, true_and, decide_eq_true_eq, hd]
  constructor
  · rintro ⟨n, hn, rfl⟩
    generalize S65536x8192.rowMajor.symm n = i at hn ⊢
    subst hn
    refine ⟨i 1, ?_⟩
    rw [← eq_ix2 i]
    rfl
  · rintro ⟨n, rfl⟩
    refine ⟨S65536x8192.rowMajor (ix2 R n), ?_, ?_⟩
    · rw [Equiv.symm_apply_apply]; rfl
    · rw [Equiv.symm_apply_apply]; rfl

/-- A two-operand reduction's index over the extended reals is the fold's over the row's pairs. -/
theorem argReduce_fold {s t u : Shape} {axes : List (Fin s.rank)} (f : EReal × BitVec 32 → EReal × BitVec 32 → EReal × BitVec 32)
    (x : FVec Ideal s .f32) (y : IVec s 32) (ix : FVec Ideal u .f32) (iy : IVec u 32) (h : s.ReducesTo axes t) (hu : 0 < u.numel)
    (j : t.Idx) (v : EReal) (w : BitVec 32) (hv : ix (Shape.Idx.first hu) = v) (hw : iy (Shape.Idx.first hu) = w) :
    (Host.argReduce f x y ix iy h hu j).2 = ((Host.argReduceFiber x y h j).foldl f (v, w)).2 := by
  rw [Ideal.argReduce_eq_reduce2, Host.reduce2_eq_foldl_fiber, hv, hw]

theorem start_value : (constant (F := Ideal) S_ .f32 0xFF800000#32) (Shape.Idx.first h_S_) = (⊥ : EReal) := by
  show Ideal.ofBits .f32 0xFF800000#32 = ⊥
  simp [Ideal.ofBits, Ideal.ieee]

theorem start_word : (constantI S_ 32 0#32) (Shape.Idx.first h_S_) = 0#32 := rfl

/-- A row's group, the whole array at once. -/
theorem group_array (x : FVec Ideal S65536x256 .f32) (g : FVec Ideal S8192x256 .f32) :
    group x g = fun j => (Host.argReduce (reducer_argmax_f32_i32 (F := Ideal)) (logits x g) (iotaInDim S65536x8192 32 1)
      (constant S_ .f32 0xFF800000#32) (constantI S_ 32 0#32) reducesTo_S65536x8192_S65536_d1 h_S_ j).2 := rfl

/-- A row's group as the fold over its pairs. -/
theorem group_fold (x : FVec Ideal S65536x256 .f32) (g : FVec Ideal S8192x256 .f32) (R : Fin 65536) :
    group x g (ix1 R) = ((Host.argReduceFiber (logits x g) (iotaInDim S65536x8192 32 1) reducesTo_S65536x8192_S65536_d1 (ix1 R)).foldl
      (reducer_argmax_f32_i32 (F := Ideal)) (⊥, 0#32)).2 :=
  (congrFun (group_array x g) (ix1 R)).trans (argReduce_fold _ _ _ _ _ _ _ _ _ _ start_value start_word)

/-- Where a row's scores are real its group is the first one of the highest score. -/
theorem group_at (x : FVec Ideal S65536x256 .f32) (g : FVec Ideal S8192x256 .f32) (R : Fin 65536) (f : ℕ → EReal)
    (hf : ∀ n : Fin 8192, logits x g (ix2 R n) = f n.val) (hr : ∀ n < 8192, ∃ p : ℝ, f n = p) :
    ∃ a, IsFirstMax f 8192 a ∧ group x g (ix1 R) = BitVec.ofNat 32 a := by
  have e := group_fold x g R
  obtain ⟨h1, h2, h3⟩ := fold_spec (Host.argReduceFiber (logits x g) (iotaInDim S65536x8192 32 1) reducesTo_S65536x8192_S65536_d1 (ix1 R)) (⊥, 0#32)
  rw [e]
  generalize List.foldl _ _ _ = w at h1 h2 h3 ⊢
  have hall : ∀ n : Fin 8192, NotBefore w (f n.val, BitVec.ofNat 32 n.val) := fun n => by
    rw [← hf]; exact h3 _ ((mem_row x g R _).2 ⟨n, rfl⟩)
  rcases h1 with rfl | h1
  · obtain ⟨p, hp⟩ := hr 0 (by decide)
    have := hall ⟨0, by decide⟩
    rw [hp] at this
    rcases this with h | ⟨h, -⟩
    · exact absurd h not_lt_bot
    · exact absurd h (EReal.coe_ne_bot p)
  · obtain ⟨a, rfl⟩ := (mem_row x g R _).1 h1
    refine ⟨a.val, ⟨a.isLt, fun n hn => ?_, fun n hn => ?_⟩, rfl⟩
    · rcases hall ⟨n, hn⟩ with h | ⟨h, -⟩
      · rw [hf] at h; exact h.le
      · rw [hf] at h; exact h.le
    · have hn' : n < 8192 := hn.trans a.isLt
      rcases hall ⟨n, hn'⟩ with h | ⟨-, h⟩
      · rw [hf] at h; exact h
      · have ha := a.isLt
        dsimp only at h
        rw [WordCmp.toInt_ofNat_of_lt (w := 32) (by omega), WordCmp.toInt_ofNat_of_lt (w := 32) (by omega)] at h
        omega

end Cert.ReferenceIdeal.Body

end
-- ==== Proof.PlainUpdate.lean ====
/- The plain program's move of the groups, read at an index: what lands on a group is one share of every row whose
   word is the group's. -/
module

public import proofs.«01_k».proof.Proof.PlainValue
public import Idealize.ShloMosaic.Lib.Routing.OpsPair
public import Idealize.ShloMosaic.Lib.Routing.OpsSet
public import Idealize.ShloMosaic.Lib.WordArith

@[expose] public section

set_option maxRecDepth 16384

noncomputable section

namespace Cert.ReferenceIdeal.Body

open Idealize.ShloMosaic Idealize.ShloMosaic.TcCoe
open Cert.ReferenceIdeal.Gen Cert.Shared

/-! ## Words that are groups' numbers -/

theorem toInt_small {n : ℕ} (h : n < 8192) : (BitVec.ofNat 32 n).toInt = n := WordCmp.toInt_ofNat_of_lt (w := 32) (by omega)

theorem maxsi_small {n : ℕ} (h : n < 8192) : IntOp.maxsi 0#32 (BitVec.ofNat 32 n) = BitVec.ofNat 32 n := by
  refine BitVec.eq_of_toInt_eq ?_
  rw [WordArith.toInt_maxsi_zero, toInt_small h]
  omega

/-- A group's number is not counted from the end. -/
theorem wrapped_at (a : IVec S65536 32) (R : Fin 65536) (k : ℕ) (hk : k < 8192) (h : a (ix1 R) = BitVec.ofNat 32 k) :
    wrapped a (ix2 R 0) = BitVec.ofNat 32 k := by
  pointwise [wrapped]
  rw [h]
  refine Routing.wrap_of_lt _ _ ?_
  rw [BitVec.toNat_ofNat, Nat.mod_eq_of_lt (by omega)]
  omega

/-! ## Where an update lands -/

/-- Row `R`'s one lands on the group its word names. -/
theorem count_lands (idx : IVec S65536x1 32) (R : Fin 65536) (n : Fin 8192) :
    scatter_S8192_S65536x1_S65536_n_0_0_1.resultIdx? (ix1 R) idx = some (ix1 n) ↔ (idx (ix2 R 0)).toInt = n.val := by
  have hs : scatter_S8192_S65536x1_S65536_n_0_0_1.siIdx (ix1 R) ⟨0, by decide⟩ = ix2 R 0 := by
    funext b
    match b with
    | ⟨0, _⟩ => exact Fin.ext rfl
    | ⟨1, _⟩ => exact Fin.ext rfl
  have h0 : scatter_S8192_S65536x1_S65536_n_0_0_1.start (ix1 R) idx 0 = (idx (ix2 R 0)).toInt := by
    rw [← hs]; rfl
  have h1 : scatter_S8192_S65536x1_S65536_n_0_0_1.window (ix1 R) 0 = 0 := rfl
  rw [Routing.resultIdx?_eq_some]
  constructor
  · intro h
    have := h 0
    rw [h0, h1] at this
    have e : ((ix1 n : S8192.Idx) 0).val = n.val := rfl
    rw [e] at this
    omega
  · intro h b
    match b with
    | ⟨0, _⟩ =>
      have e : ((ix1 n : S8192.Idx) 0).val = n.val := rfl
      show scatter_S8192_S65536x1_S65536_n_0_0_1.start (ix1 R) idx 0
        + (scatter_S8192_S65536x1_S65536_n_0_0_1.window (ix1 R) 0 : Int) = (((ix1 n : S8192.Idx) 0).val : Int)
      rw [h0, h1, e]
      omega

/-- Row `R`'s share at column `k` lands on the group its word names, at column `k`. -/
theorem share_lands (idx : IVec S65536x1 32) (R : Fin 65536) (k : Fin 256) (n : Fin 8192) (j : Fin 256) :
    scatter_S8192x256_S65536x1_S65536x256_1_0_0_1.resultIdx? (ix2 R k) idx = some (ix2 n j)
      ↔ (idx (ix2 R 0)).toInt = n.val ∧ k = j := by
  have hs : scatter_S8192x256_S65536x1_S65536x256_1_0_0_1.siIdx (ix2 R k) ⟨0, by decide⟩ = ix2 R 0 := by
    funext b
    match b with
    | ⟨0, _⟩ => exact Fin.ext rfl
    | ⟨1, _⟩ => exact Fin.ext rfl
  have h0 : scatter_S8192x256_S65536x1_S65536x256_1_0_0_1.start (ix2 R k) idx 0 = (idx (ix2 R 0)).toInt := by
    rw [← hs]; rfl
  have h1 : scatter_S8192x256_S65536x1_S65536x256_1_0_0_1.window (ix2 R k) 0 = 0 := rfl
  have k0 : scatter_S8192x256_S65536x1_S65536x256_1_0_0_1.start (ix2 R k) idx 1 = 0 := rfl
  have k1 : scatter_S8192x256_S65536x1_S65536x256_1_0_0_1.window (ix2 R k) 1 = k.val := rfl
  have e0 : ((ix2 n j : S8192x256.Idx) 0).val = n.val := rfl
  have e1 : ((ix2 n j : S8192x256.Idx) 1).val = j.val := rfl
  rw [Routing.resultIdx?_eq_some]
  constructor
  · intro h
    have p := h 0
    have q := h 1
    rw [h0, h1, e0] at p
    rw [k0, k1, e1] at q
    exact ⟨by omega, Fin.ext (by omega)⟩
  · rintro ⟨h, rfl⟩ b
    match b with
    | ⟨0, _⟩ =>
      show scatter_S8192x256_S65536x1_S65536x256_1_0_0_1.start (ix2 R k) idx 0
        + (scatter_S8192x256_S65536x1_S65536x256_1_0_0_1.window (ix2 R k) 0 : Int) = (((ix2 n k : S8192x256.Idx) 0).val : Int)
      rw [h0, h1, e0]
      omega
    | ⟨1, _⟩ =>
      show scatter_S8192x256_S65536x1_S65536x256_1_0_0_1.start (ix2 R k) idx 1
        + (scatter_S8192x256_S65536x1_S65536x256_1_0_0_1.window (ix2 R k) 1 : Int) = (((ix2 n k : S8192x256.Idx) 1).val : Int)
      rw [k0, k1, e1]
      omega

/-! ## The counts -/

/-- How many rows have the number `n`. -/
def members (gi : Fin 65536 → ℕ) (n : ℕ) : ℕ := ∑ R : Fin 65536, if gi R = n then 1 else 0

theorem members_le (gi : Fin 65536 → ℕ) (n : ℕ) : members gi n ≤ 65536 := by
  refine (Finset.sum_le_sum (g := fun _ => 1) fun R _ => ?_).trans ?_
  · split <;> omega
  · rw [Finset.sum_const, Finset.card_univ, Fintype.card_fin]; rfl

theorem members_pos (gi : Fin 65536 → ℕ) (R : Fin 65536) : 0 < members gi (gi R) :=
  Finset.sum_pos' (fun _ _ => Nat.zero_le _) ⟨R, Finset.mem_univ _, by rw [if_pos rfl]; exact Nat.one_pos⟩

/-- A running count over a list is the sum of its ones. -/
theorem foldl_ones {ι : Type} (L : List ι) (p : ι → Prop) [DecidablePred p] (z : ℕ) :
    L.foldl (fun a n => if p n then IntOp.addi a 1#32 else a) (BitVec.ofNat 32 z)
      = BitVec.ofNat 32 (z + (L.map fun n => if p n then 1 else 0).sum) := by
  induction L generalizing z with
  | nil => rfl
  | cons n L ih =>
    rw [List.foldl_cons, List.map_cons, List.sum_cons]
    by_cases h : p n
    · rw [if_pos h, if_pos h]
      have e : IntOp.addi (BitVec.ofNat 32 z) 1#32 = BitVec.ofNat 32 (z + 1) := (BitVec.ofNat_add z 1).symm
      rw [e, ih, Nat.add_assoc]
    · rw [if_neg h, if_neg h, ih, Nat.zero_add]

/-- A group's count is the number of its rows. -/
theorem counts_at (a : IVec S65536 32) (gi : Fin 65536 → ℕ) (hgi : ∀ R, gi R < 8192)
    (ha : ∀ R, a (ix1 R) = BitVec.ofNat 32 (gi R)) (n : Fin 8192) : counts a (ix1 n) = BitVec.ofNat 32 (members gi n) := by
  unfold counts
  have hm : ∀ R, maxsi (broadcastInDim S65536 ![] bcast_S_S65536 (constantI S_ 32 0#32)) a (ix1 R) = BitVec.ofNat 32 (gi R) := fun R => by
    pointwise
    rw [ha, maxsi_small (hgi R)]
  generalize maxsi (broadcastInDim S65536 ![] bcast_S_S65536 (constantI S_ 32 0#32)) a = a' at hm
  have hz : (broadcastInDim S8192 ![] bcast_S_S8192 (constantI S_ 32 0#32)) (ix1 n) = BitVec.ofNat 32 0 := by pointwise
  have ho : ∀ i, (broadcastInDim S65536 ![] bcast_S_S65536 (constantI S_ 32 1#32)) i = 1#32 := fun i => by pointwise
  rw [Routing.scatter_at, hz]
  simp only [ho]
  rw [foldl_ones, Nat.zero_add, ← Fin.sum_univ_def]
  rw [Equiv.sum_comp S65536.rowMajor.symm fun i => if scatter_S8192_S65536x1_S65536_n_0_0_1.resultIdx? i (wrapped a') = some (ix1 n) then 1 else 0]
  refine congrArg (BitVec.ofNat 32) ?_
  unfold members
  refine (Fintype.sum_equiv (Equiv.piUnique fun a : Fin 1 => Fin (S65536.size a)) _ (fun R : Fin 65536 => if gi R = n.val then 1 else 0) fun i => ?_)
  obtain ⟨R, rfl⟩ : ∃ R : Fin 65536, i = ix1 R := ⟨i 0, eq_ix1 i⟩
  show (if _ then 1 else 0) = if gi R = n.val then 1 else 0
  refine if_congr ((count_lands _ R n).trans ?_) rfl rfl
  rw [wrapped_at a' R (gi R) (hgi _) (hm _), toInt_small (hgi _)]
  exact Int.natCast_inj

/-! ## The move -/

/-- A row's share: its column times the rate, over the number of rows its group has. -/
theorem share_at (x : FVec Ideal S65536x256 .f32) (a : IVec S65536 32) (gi : Fin 65536 → ℕ) (hgi : ∀ R, gi R < 8192)
    (ha : ∀ R, a (ix1 R) = BitVec.ofNat 32 (gi R)) (R : Fin 65536) (j : Fin 256) :
    share x a (ix2 R j) = Ideal.div (Ideal.ofBits .f32 0x3C23D70A#32 * x (ix2 R j)) (((members gi (gi R) : ℕ) : ℝ) : EReal) := by
  have e : Host.gather gather_S8192_S65536x1_S65536_n_0_n_n_0_1_1 (counts a) (wrapped a) (ix1 R) = BitVec.ofNat 32 (members gi (gi R)) := by
    rw [ix1_eq_valueIdx, Routing.gather_take1 (N := 8192) (n := 65536) gather_S8192_S65536x1_S65536_n_0_n_n_0_1_1 rfl rfl rfl rfl
      (counts a) (wrapped a) R ⟨gi R, hgi R⟩ (by rw [← ix2_eq_valueIdx]; exact wrapped_at a R (gi R) (hgi R) (ha R)) (by decide),
      ← ix1_eq_valueIdx]
    exact counts_at a gi hgi ha ⟨gi R, hgi R⟩
  pointwise [share]
  rw [e]
  refine congrArg (Ideal.div _) ?_
  show (((BitVec.ofNat 32 (members gi (gi R))).toInt : ℝ) : EReal) = _
  have h := members_le gi (gi R)
  rw [WordCmp.toInt_ofNat_of_lt (w := 32) (by omega)]
  rw [Int.cast_natCast]

/-- A moved group: most of it, and the shares of its rows. -/
theorem moved_at (x : FVec Ideal S65536x256 .f32) (g : FVec Ideal S8192x256 .f32) (a : IVec S65536 32) (gi : Fin 65536 → ℕ)
    (hgi : ∀ R, gi R < 8192) (ha : ∀ R, a (ix1 R) = BitVec.ofNat 32 (gi R)) (n : Fin 8192) (j : Fin 256) :
    moved x g a (ix2 n j) = Ideal.ofBits .f32 0x3F7D70A4#32 * g (ix2 n j)
      + ∑ R : Fin 65536, if gi R = n.val then Ideal.div (Ideal.ofBits .f32 0x3C23D70A#32 * x (ix2 R j)) (((members gi n : ℕ) : ℝ) : EReal) else 0 := by
  unfold moved
  have hg : (mulf (broadcastInDim S8192x256 ![] bcast_S_S8192x256 (constant (F := Ideal) S_ .f32 0x3F7D70A4#32)) g) (ix2 n j)
      = Ideal.ofBits .f32 0x3F7D70A4#32 * g (ix2 n j) := by pointwise
  have hs := fun R k => share_at x a gi hgi ha R k
  have hw := fun R => wrapped_at a R (gi R) (hgi R) (ha R)
  generalize share x a = s at hs ⊢
  generalize wrapped a = w at hw ⊢
  generalize mulf (F := Ideal) _ g = g' at hg ⊢
  generalize Ideal.ofBits .f32 0x3F7D70A4#32 * g (ix2 n j) = G at hg ⊢
  generalize Ideal.ofBits .f32 0x3C23D70A#32 = κ at hs ⊢
  show g' (ix2 n j) + ∑ k ∈ Finset.univ.filter (fun k => scatter_S8192x256_S65536x1_S65536x256_1_0_0_1.resultIdx? k w = some (ix2 n j)), s k = _
  rw [hg, Finset.sum_filter, sum_idx2]
  refine congrArg (G + ·) (Finset.sum_congr rfl fun R _ => ?_)
  have hl : ∀ k : Fin 256, scatter_S8192x256_S65536x1_S65536x256_1_0_0_1.resultIdx? (ix2 R k) w = some (ix2 n j) ↔ gi R = n.val ∧ k = j := fun k => by
    rw [share_lands, hw, toInt_small (hgi R)]
    exact and_congr_left fun _ => Int.natCast_inj
  by_cases h : gi R = n.val
  · rw [if_pos h, Finset.sum_eq_single j (fun k _ hk => if_neg fun q => hk ((hl k).1 q).2) (fun q => absurd (Finset.mem_univ _) q),
      if_pos ((hl j).2 ⟨h, rfl⟩), hs, h]
  · rw [if_neg h]
    exact Finset.sum_eq_zero fun k _ => if_neg fun q => h ((hl k).1 q).1

end Cert.ReferenceIdeal.Body
-- ==== Proof.Agree.lean ====
/- The two programs' results are equal where the rows are finite and no group is shorter than the length bound but a zero one: the
   rows' words agree, and so do the groups moved by them. -/
module

public import proofs.«01_k».proof.Proof.Gen.Pre_finite_rows_no_tiny_groups
public import proofs.«01_k».proof.Proof.IdealAssignArray
public import proofs.«01_k».proof.Proof.IdealUpdateArray
public import proofs.«01_k».proof.Proof.IdealRun
public import proofs.«01_k».proof.Proof.PlainUpdate

@[expose] public section

set_option maxRecDepth 16384

noncomputable section

namespace Cert.Agree

open Idealize.ShloMosaic Idealize.ShloMosaic.TcCoe
open Cert.Shared
open Cert.ReferenceIdeal.Body (members members_pos moved group logits logits_at group_at moved_at)
open Cert.KernelIdeal.Body (groupsOf groupsOf_at groups_arr movedOf moved_arr rowSum rowCount idWord rowVal at0 at1 at2 dat0 dat1)

/-- The rows and the groups. -/
abbrev Rows : Type := (⟨2, ![65536, 256]⟩ : Shape).Idx → EReal
abbrev Groups : Type := (⟨2, ![8192, 256]⟩ : Shape).Idx → EReal

/-! ## What the precondition says -/

/-- A magnitude below `+∞` is a real's. -/
theorem real_of_abs (v : EReal) (h : Ideal.cmp .olt (max v (-v)) (Ideal.ofBits .f32 0x7F800000#32) = 1#1) : ∃ r : ℝ, v = r := by
  have e : Ideal.ofBits .f32 0x7F800000#32 = ⊤ := by simp [Ideal.ofBits, Ideal.ieee]
  rw [e] at h
  induction v using EReal.rec with
  | bot => simp [Ideal.cmp] at h
  | top => simp [Ideal.cmp] at h
  | coe r => exact ⟨r, rfl⟩

theorem le_of_cmp (a b : EReal) (h : Ideal.cmp .oge a b = 1#1) : b ≤ a := by
  by_contra q
  simp [Ideal.cmp, q] at h

/-- The rows are real. -/
theorem rows_real (x : Rows) (g : Groups) (h : (Cert.Pre_finite_rows_no_tiny_groups.fn (F := Ideal) x g).1 = fun _ => 1#1)
    (R : Fin 65536) (k : Fin 256) : ∃ r : ℝ, x (ix2 R k) = r := by
  have e := congrFun h (ix2 R k)
  pointwise [Cert.Pre_finite_rows_no_tiny_groups.fn] at e
  exact real_of_abs _ e

theorem eq_of_cmp (a b : EReal) (h : Ideal.cmp .oeq a b = 1#1) : a = b := by
  by_contra q
  simp [Ideal.cmp, q] at h

theorem or_of_ori (p q : BitVec 1) (h : IntOp.ori p q = 1#1) : p = 1#1 ∨ q = 1#1 := by
  revert p q
  decide

/-- The groups are at least as long as the bound, or zero. -/
theorem groups_long (x : Rows) (g : Groups) (h : (Cert.Pre_finite_rows_no_tiny_groups.fn (F := Ideal) x g).2 = fun _ => 1#1)
    (n : Fin 8192) : LongOrZero fun k => g (ix2 n k) := by
  have e := congrFun h (ix2 n 0)
  pointwise [Cert.Pre_finite_rows_no_tiny_groups.fn, Cert.Pre_finite_rows_no_tiny_groups.fn_norm] at e
  rcases or_of_ori _ _ e with e | e
  · exact .inl (le_of_cmp _ _ e)
  · exact .inr (eq_of_cmp _ _ e)

/-! ## The words -/

section
variable (x : Rows) (g : Groups) (hx : ∀ R k, ∃ r : ℝ, x (ix2 R k) = r)
  (hg : ∀ n : Fin 8192, LongOrZero fun k => g (ix2 n k))
include hx hg

/-- A row's score against a group in the first program. -/
theorem score_is_real (R : Fin 65536) (n : ℕ) (hn : n < 8192) : ∃ p : ℝ, score (fun k => x (ix2 R k)) (groupRow g n) = p := by
  refine score_real _ _ (hx R) fun k => ?_
  have e : groupRow g n = fun k => g (ix2 ⟨n, hn⟩ k) := funext fun k => groupRow_of_lt g n hn k
  rw [e]
  exact (unitRow_of_long _ (hg ⟨n, hn⟩) k).2

/-- In the second program a row's scores are those of the first times one positive real. -/
theorem logits_scaled (R : Fin 65536) : ∃ c : ℝ, 0 < c ∧ ∀ n : Fin 8192,
    logits (F := Ideal) x g (ix2 R n) = score (fun k => x (ix2 R k)) (groupRow g n.val) * (c : EReal) := by
  obtain ⟨c, hc, h⟩ := scaled_row (fun k => x (ix2 R k)) (hx R)
  refine ⟨c, hc, fun n => ?_⟩
  have e : groupRow g n.val = fun k => g (ix2 n k) := funext fun k => groupRow_of_lt g n.val n.isLt k
  rw [e, ← scaled_score _ _ c (hx R) fun k => (unitRow_of_long _ (hg n) k).2, logits_at]
  refine Finset.sum_congr rfl fun k _ => ?_
  rw [h k, (unitRow_of_long _ (hg n) k).1]

/-- Both programs give a row the same word, a group's number. -/
theorem words_agree (W : (c : Dev Cert.KernelIdeal.nD) → Valuation Cert.KernelIdeal.τ Cert.KernelIdeal.sig (Elt Ideal))
    (c : Dev Cert.KernelIdeal.nD) (h0 : W c (Proc.devRef .tc Cert.KernelIdeal.main_arg0) = x)
    (h1 : W c (Proc.devRef .tc Cert.KernelIdeal.main_arg1) = g) (R : Fin 65536) :
    ∃ a < 8192, group (F := Ideal) x g (ix1 R) = BitVec.ofNat 32 a ∧ groupsOf W c (ix2 R 0) = BitVec.ofNat 32 a := by
  obtain ⟨a, ha, ea⟩ := groupsOf_at W c x h0 g h1 R fun n hn => score_is_real x g hx hg R n hn
  obtain ⟨r, hr, hl⟩ := logits_scaled x g hx hg R
  obtain ⟨b, hb, eb⟩ := group_at x g R (fun n => score (fun k => x (ix2 R k)) (groupRow g n) * (r : EReal)) hl fun n hn => by
    obtain ⟨p, hp⟩ := score_is_real x g hx hg R n hn
    exact ⟨p * r, by rw [hp, EReal.coe_mul]⟩
  have e : ∀ n < 8192, ∀ m < 8192, ∃ p q : ℝ, score (fun k => x (ix2 R k)) (groupRow g n) = p ∧ score (fun k => x (ix2 R k)) (groupRow g m) = q :=
    fun n hn m hm => by
      obtain ⟨p, hp⟩ := score_is_real x g hx hg R n hn
      obtain ⟨q, hq⟩ := score_is_real x g hx hg R m hm
      exact ⟨p, q, hp, hq⟩
  have hab : IsFirstMax (fun n => score (fun k => x (ix2 R k)) (groupRow g n) * (r : EReal)) 8192 a := by
    refine ha.congr (fun m hm n hn h => ?_) (fun m hm n hn h => ?_)
    · obtain ⟨p, q, hp, hq⟩ := e m hm n hn
      simp only [hp, hq, ← EReal.coe_mul, EReal.coe_lt_coe_iff] at h ⊢
      exact mul_lt_mul_of_pos_right h hr
    · obtain ⟨p, q, hp, hq⟩ := e m hm n hn
      simp only [hp, hq, ← EReal.coe_mul, EReal.coe_le_coe_iff] at h ⊢
      exact mul_le_mul_of_nonneg_right h hr.le
  rw [← hab.unique hb] at eb
  exact ⟨a, ha.1, eb, ea⟩

end

/-! ## The move -/

theorem sum_coe {ι : Type*} (S : Finset ι) (f : ι → ℝ) : ∑ i ∈ S, (f i : EReal) = ((∑ i ∈ S, f i : ℝ) : EReal) :=
  (map_sum (⟨⟨Real.toEReal, EReal.coe_zero⟩, EReal.coe_add⟩ : ℝ →+ EReal) f S).symm

/-- The number of a group's rows, counted in ones. -/
theorem count_coe (gi : Fin 65536 → ℕ) (n : ℕ) : (∑ R : Fin 65536, if gi R = n then (1 : EReal) else 0) = ((members gi n : ℝ) : EReal) := by
  have e : ∀ R, (if gi R = n then (1 : EReal) else 0) = (((if gi R = n then 1 else 0 : ℕ) : ℝ) : EReal) := fun R => by
    split <;> simp
  simp only [e]
  rw [sum_coe, ← Nat.cast_sum]
  rfl

/-- The sum of a group's rows times the rate over their number is the sum of the rows times the rate, each over the number. -/
theorem shares_agree (p : Fin 65536 → ℝ) (κ : ℝ) (gi : Fin 65536 → ℕ) (n : ℕ) :
    (∑ R : Fin 65536, if gi R = n then (p R : EReal) else 0)
        * (if 0 < ((members gi n : ℝ) : EReal) then Ideal.div (κ : EReal) (max ((members gi n : ℝ) : EReal) 1) else 0)
      = ∑ R : Fin 65536, if gi R = n then Ideal.div ((κ : EReal) * (p R : EReal)) ((members gi n : ℝ) : EReal) else 0 := by
  rcases Nat.eq_zero_or_pos (members gi n) with h | h
  · have hn : ∀ R, gi R ≠ n := fun R e => by
      have := members_pos gi R
      rw [e, h] at this
      exact lt_irrefl _ this
    simp only [hn, if_false, Finset.sum_const_zero, zero_mul]
  · have h1 : (1 : ℝ) ≤ (members gi n : ℝ) := by exact_mod_cast h
    generalize (members gi n : ℝ) = M at h1
    have hM : M ≠ 0 := by linarith
    have h0 : (0 : EReal) < (M : EReal) := by exact_mod_cast (by linarith : (0 : ℝ) < M)
    have hm : max (M : EReal) 1 = M := max_eq_left (by exact_mod_cast h1)
    rw [if_pos h0, hm, div_coe _ _ hM, ← EReal.coe_mul]
    have e1 : ∀ R, (if gi R = n then (p R : EReal) else 0) = ((if gi R = n then p R else 0 : ℝ) : EReal) := fun R => by split <;> simp
    have e2 : ∀ R, (if gi R = n then Ideal.div ((κ : EReal) * (p R : EReal)) (M : EReal) else 0)
        = ((if gi R = n then p R else 0 : ℝ) * (κ * M⁻¹) : ℝ) := fun R => by
      rw [div_coe _ _ hM, ← EReal.coe_mul, ← EReal.coe_mul]
      split
      · exact congrArg _ (by ring)
      · simp
    simp only [e1, e2]
    rw [sum_coe, sum_coe, ← EReal.coe_mul, Finset.sum_mul]

theorem rate_real : ∃ κ : ℝ, Ideal.ofBits .f32 0x3C23D70A#32 = (κ : EReal) := by
  simp [Ideal.ofBits, Ideal.ieee, -EReal.coe_mul]

/-- Groups moved by the same words are the same. -/
theorem moves_agree (x : Rows) (g : Groups) (hx : ∀ R k, ∃ r : ℝ, x (ix2 R k) = r)
    (W : (c : Dev Cert.KernelIdeal.nD) → Valuation Cert.KernelIdeal.τ Cert.KernelIdeal.sig (Elt Ideal))
    (c : Dev Cert.KernelIdeal.nD) (h0 : W c (Proc.devRef .tc Cert.KernelIdeal.main_arg0) = x)
    (h1 : W c (Proc.devRef .tc Cert.KernelIdeal.main_arg1) = g)
    (w : (⟨2, ![65536, 1]⟩ : Shape).Idx → BitVec 32) (h2 : W c (Proc.devRef .tc Cert.KernelIdeal.main_v0) = w)
    (a : (⟨1, ![65536]⟩ : Shape).Idx → BitVec 32) (hw : ∀ R : Fin 65536, ∃ k < 8192, a (ix1 R) = BitVec.ofNat 32 k ∧ w (ix2 R 0) = BitVec.ofNat 32 k) :
    movedOf W c = moved (F := Ideal) x g a := by
  choose gi hgi ha hw using hw
  choose p hp using hx
  obtain ⟨κ, hκ⟩ := rate_real
  have hid : ∀ R : Fin 65536, ∀ n < 8192, (idWord W c R.val = BitVec.ofNat 32 n) = (gi R = n) := fun R n hn => by
    unfold idWord
    rw [dif_pos R.isLt, h2]
    have e : w (ix2 ⟨R.val, R.isLt⟩ 0) = BitVec.ofNat 32 (gi R) := hw R
    have hb := hgi R
    rw [e]
    exact propext (WordCmp.ofNat_eq_ofNat_iff (by omega) (by omega))
  have hrow : ∀ R : Fin 65536, ∀ j, rowVal W c R.val j = (p R j : EReal) := fun R j => by
    unfold rowVal
    rw [dif_pos R.isLt, h0]
    exact hp R j
  have hc : ∀ n < 8192, rowCount W c n = ((members gi n : ℝ) : EReal) := fun n hn => by
    unfold rowCount
    simp only [hid _ n hn]
    exact count_coe gi n
  have hs : ∀ n < 8192, ∀ j, rowSum W c n j = ∑ R : Fin 65536, if gi R = n then (p R j : EReal) else 0 := fun n hn j => by
    unfold rowSum
    simp only [hid _ n hn, hrow]
  funext i
  obtain ⟨n, j, rfl⟩ : ∃ (n : Fin 8192) (j : Fin 256), i = ix2 n j := ⟨i 0, i 1, eq_ix2 i⟩
  have key := shares_agree (fun R => p R j) κ gi n.val
  rw [moved_at x g a gi hgi ha n j, hκ]
  simp only [hp]
  rw [← key]
  unfold movedOf
  rw [h1]
  show Ideal.ofBits .f32 0x3F7D70A4#32 * g (ix2 n j) + rowSum W c n.val j
    * (if 0 < rowCount W c n.val then Ideal.div (Ideal.ofBits .f32 0x3C23D70A#32) (max (rowCount W c n.val) 1) else 0) = _
  rw [hs _ n.isLt, hc _ n.isLt, hκ]

/-! ## The result -/

variable (m : (ℓ : Loc Cert.KernelIdeal.nD Cert.KernelIdeal.τ Cert.KernelIdeal.sig) → Buf (Elt Ideal) ℓ)

theorem at1_arg0 (c : Dev Cert.KernelIdeal.nD) : at1 m c (Proc.devRef .tc Cert.KernelIdeal.main_arg0) = m ((c.tc : Thread Cert.KernelIdeal.nD Cert.KernelIdeal.τ).loc Cert.KernelIdeal.main_arg0) :=
  (Pipeline.afterRegion_keeps (dat0 (at0 m) c) (at0 m c) Cert.KernelIdeal.Gen.launch0.win.arr_inj (Cert.KernelIdeal.Body.dat0_A (at0 m) c) _ (by decide)).trans rfl
theorem at1_arg1 (c : Dev Cert.KernelIdeal.nD) : at1 m c (Proc.devRef .tc Cert.KernelIdeal.main_arg1) = m ((c.tc : Thread Cert.KernelIdeal.nD Cert.KernelIdeal.τ).loc Cert.KernelIdeal.main_arg1) :=
  (Pipeline.afterRegion_keeps (dat0 (at0 m) c) (at0 m c) Cert.KernelIdeal.Gen.launch0.win.arr_inj (Cert.KernelIdeal.Body.dat0_A (at0 m) c) _ (by decide)).trans rfl
/-- Between the regions the words' array holds the rows' groups. -/
theorem at1_words (c : Dev Cert.KernelIdeal.nD) : at1 m c (Proc.devRef .tc Cert.KernelIdeal.main_v0) = groupsOf (at0 m) c :=
  (Pipeline.afterRegion_arr (dat0 (at0 m) c) (at0 m c) Cert.KernelIdeal.Gen.launch0.win.arr_inj 2).trans (groups_arr (at0 m) c)
/-- After both the result's array holds the groups moved. -/
theorem at2_result (c : Dev Cert.KernelIdeal.nD) : at2 m c (Proc.devRef .tc Cert.KernelIdeal.main_v1) = movedOf (at1 m) c :=
  (Pipeline.afterRegion_arr (dat1 (at1 m) c) (at1 m c) Cert.KernelIdeal.Gen.launch1.win.arr_inj 3).trans (moved_arr (at1 m) c)

/-- The first program's result is the second's. -/
theorem results_agree (c : Dev Cert.KernelIdeal.nD) (x : Rows) (g : Groups)
    (h0 : m ((c.tc : Thread Cert.KernelIdeal.nD Cert.KernelIdeal.τ).loc Cert.KernelIdeal.main_arg0) = x)
    (h1 : m ((c.tc : Thread Cert.KernelIdeal.nD Cert.KernelIdeal.τ).loc Cert.KernelIdeal.main_arg1) = g)
    (hx : ∀ R k, ∃ r : ℝ, x (ix2 R k) = r) (hg : ∀ n : Fin 8192, LongOrZero fun k => g (ix2 n k)) :
    at2 m c (Proc.devRef .tc Cert.KernelIdeal.main_v1) = moved (F := Ideal) x g (group (F := Ideal) x g) :=
  (at2_result m c).trans (moves_agree x g hx (at1 m) c ((at1_arg0 m c).trans h0) ((at1_arg1 m c).trans h1) (groupsOf (at0 m) c)
    (at1_words m c) (group (F := Ideal) x g) fun R => words_agree x g hx hg (at0 m) c h0 h1 R)

end Cert.Agree

end
-- ==== Proof.lean ====
/- The claim: the two pallas_calls' run read at the bit-exact and at the ideal floats, the plain program's run, and the
   equality of the two results. -/
module

public import proofs.«01_k».proof.Defs
public import proofs.«01_k».proof.Proof.Gen.Pre_finite_rows_no_tiny_groups
public import proofs.«01_k».proof.Proof.BitsRun
public import proofs.«01_k».proof.Proof.IdealRun
public import proofs.«01_k».proof.Proof.PlainRun
public import proofs.«01_k».proof.Proof.Agree

@[expose] public section

noncomputable section

namespace Cert.Proof

open Idealize.ShloMosaic Idealize.SL.Sem

/-- The plain program's arguments end unchanged and it has no semaphore. -/
theorem frame_plain : Cert.quiescent_ReferenceIdeal := fun m g _ =>
  (θ_run Cert.ReferenceIdeal.defs _ _).mono (fun _ h => ⟨fun c => (h.1 c).2, h.2⟩) (Cert.ReferenceIdeal.Body.run (F := Ideal) m g)

/-- Where the rows are finite and no group but a zero one is shorter than the bound, the two programs end with equal results:
    the array that the second pallas_call writes back. -/
theorem equal_results : Cert.algebraic_KernelIdeal_ReferenceIdeal_pre_finite_rows_no_tiny_groups := by
  intro m g m' g' hp hm
  refine ⟨fun c => Cert.KernelIdeal.Body.at2 (F := Ideal) m c (Proc.devRef .tc Cert.KernelIdeal.main_v1), ?_, ?_⟩
  · exact (θ_run Cert.KernelIdeal.defs _ _).mono (fun _ h => h.1) (Cert.KernelIdeal.Body.run_both (F := Ideal) m g)
  · refine (θ_run Cert.ReferenceIdeal.defs _ _).mono (fun r h c => ⟨?_, (h.1 c).2⟩) (Cert.ReferenceIdeal.Body.run (F := Ideal) m' g')
    refine (h.1 c).1.trans ?_
    rw [(hm c).1, (hm c).2]
    exact (Cert.Agree.results_agree m c _ _ rfl rfl (Cert.Agree.rows_real _ _ (hp c).1) (Cert.Agree.groups_long _ _ (hp c).2)).symm

theorem claim : Cert.Claim := ⟨Cert.Kernel.Gen.facts, Cert.KernelIdeal.Gen.facts, Cert.ReferenceIdeal.Gen.facts,
  Cert.Pre_finite_rows_no_tiny_groups.Gen.facts,
  fun m g _ => Cert.Kernel.Body.frame (F := Bits) m g,
  fun m g _ => Cert.KernelIdeal.Body.frame (F := Ideal) m g,
  fun m g _ => Cert.KernelIdeal.Body.frame (F := Ideal) m g,
  frame_plain, fun m g _ => frame_plain m g trivial, trivial, equal_results⟩

end Cert.Proof

end
